-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S1024x1024 : Shape := ⟨2, ![1024, 1024]⟩
abbrev S512x1024 : Shape := ⟨2, ![512, 1024]⟩
abbrev S512 : Shape := ⟨1, ![512]⟩
abbrev S8x512 : Shape := ⟨2, ![8, 512]⟩
abbrev S8 : Shape := ⟨1, ![8]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S1x2048x1024 .f32) (main_arg1 : FVec F S1024x1024 .f32) (main_arg2 : FVec F S1024x1024 .f32) (main_arg3 : FVec F S1024x1024 .f32) (main_arg4 : FVec F S1024x1024 .f32) (main_arg5 : FVec F S512x1024 .f32) (main_arg6 : FVec F S512 .f32) (main_arg7 : FVec F S8x512 .f32) (main_arg8 : FVec F S8 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S512x1024 : Shape := ⟨2, ![512, 1024]⟩
abbrev S512 : Shape := ⟨1, ![512]⟩
abbrev S8x512 : Shape := ⟨2, ![8, 512]⟩
abbrev S8 : Shape := ⟨1, ![8]⟩
abbrev S2048x1024 : Shape := ⟨2, ![2048, 1024]⟩
abbrev S1024x512 : Shape := ⟨2, ![1024, 512]⟩
abbrev S1x512 : Shape := ⟨2, ![1, 512]⟩
abbrev S2048x512 : Shape := ⟨2, ![2048, 512]⟩
abbrev S256x1024 : Shape := ⟨2, ![256, 1024]⟩
abbrev S1024x256 : Shape := ⟨2, ![1024, 256]⟩
abbrev S1x256 : Shape := ⟨2, ![1, 256]⟩
abbrev S256x256 : Shape := ⟨2, ![256, 256]⟩
abbrev S_ : Shape := ⟨0, ![]⟩
abbrev S128x512 : Shape := ⟨2, ![128, 512]⟩
abbrev S1 : Shape := ⟨1, ![1]⟩
abbrev S128 : Shape := ⟨1, ![128]⟩
abbrev S512x128 : Shape := ⟨2, ![512, 128]⟩
abbrev S1x128 : Shape := ⟨2, ![1, 128]⟩
abbrev S2048x128 : Shape := ⟨2, ![2048, 128]⟩
abbrev S256x512 : Shape := ⟨2, ![256, 512]⟩
abbrev S256x128 : Shape := ⟨2, ![256, 128]⟩
abbrev S2048x8 : Shape := ⟨2, ![2048, 8]⟩
abbrev S2048 : Shape := ⟨1, ![2048]⟩
abbrev S8x2048 : Shape := ⟨2, ![8, 2048]⟩
abbrev S8x320 : Shape := ⟨2, ![8, 320]⟩
abbrev S8x1 : Shape := ⟨2, ![8, 1]⟩
abbrev S2560 : Shape := ⟨1, ![2560]⟩
abbrev S2560x1 : Shape := ⟨2, ![2560, 1]⟩
abbrev S1x1 : Shape := ⟨2, ![1, 1]⟩
abbrev S2560x1024 : Shape := ⟨2, ![2560, 1024]⟩
abbrev S8x5120x64 : Shape := ⟨3, ![8, 5120, 64]⟩
abbrev S32 : Shape := ⟨1, ![32]⟩
abbrev S320 : Shape := ⟨1, ![320]⟩
abbrev S320x1 : Shape := ⟨2, ![320, 1]⟩
abbrev S1x32 : Shape := ⟨2, ![1, 32]⟩
abbrev S320x32 : Shape := ⟨2, ![320, 32]⟩
abbrev S320x64 : Shape := ⟨2, ![320, 64]⟩
abbrev S320x16x64 : Shape := ⟨3, ![320, 16, 64]⟩
abbrev S5120x64 : Shape := ⟨2, ![5120, 64]⟩
abbrev S8x1x1 : Shape := ⟨3, ![8, 1, 1]⟩
abbrev S1x5120x64 : Shape := ⟨3, ![1, 5120, 64]⟩
abbrev S1x1x1 : Shape := ⟨3, ![1, 1, 1]⟩
abbrev S5120 : Shape := ⟨1, ![5120]⟩
abbrev S1x5120 : Shape := ⟨2, ![1, 5120]⟩
abbrev S5120x32 : Shape := ⟨2, ![5120, 32]⟩
abbrev S1x512x64 : Shape := ⟨3, ![1, 512, 64]⟩
abbrev S512x64 : Shape := ⟨2, ![512, 64]⟩
abbrev S512x32 : Shape := ⟨2, ![512, 32]⟩
abbrev S512x1 : Shape := ⟨2, ![512, 1]⟩
abbrev S512x512 : Shape := ⟨2, ![512, 512]⟩

abbrev nBuf : Space → Nat
  | .hbm => 180
  | .vmem => 56
  | .smem => 4
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S1024x1024, .f32⟩
  | 4 => ⟨S1024x1024, .f32⟩
  | 5 => ⟨S512x1024, .f32⟩
  | 6 => ⟨S512, .f32⟩
  | 7 => ⟨S8x512, .f32⟩
  | 8 => ⟨S8, .f32⟩
  | 9 => ⟨S2048x1024, .f32⟩
  | 10 => ⟨S1024x512, .f32⟩
  | 11 => ⟨S1x512, .f32⟩
  | 12 => ⟨S2048x512, .f32⟩
  | 13 => ⟨S_, .f32⟩
  | 14 => ⟨S128x512, .f32⟩
  | 15 => ⟨S_, .i32⟩
  | 16 => ⟨S1, .i32⟩
  | 17 => ⟨S128x512, .f32⟩
  | 18 => ⟨S_, .f32⟩
  | 19 => ⟨S128, .f32⟩
  | 20 => ⟨S_, .i32⟩
  | 21 => ⟨S1, .i32⟩
  | 22 => ⟨S128, .f32⟩
  | 23 => ⟨S512x128, .f32⟩
  | 24 => ⟨S1x128, .f32⟩
  | 25 => ⟨S2048x128, .f32⟩
  | 26 => ⟨S2048x8, .f32⟩
  | 27 => ⟨S_, .f32⟩
  | 28 => ⟨S2048, .f32⟩
  | 29 => ⟨S_, .f32⟩
  | 30 => ⟨S_, .f32⟩
  | 31 => ⟨S_, .f32⟩
  | 32 => ⟨S_, .f32⟩
  | 33 => ⟨S_, .f32⟩
  | 34 => ⟨S8x2048, .f32⟩
  | 35 => ⟨S8x320, .f32⟩
  | 36 => ⟨S8x320, .i32⟩
  | 37 => ⟨S_, .f32⟩
  | 38 => ⟨S8, .f32⟩
  | 39 => ⟨S_, .f32⟩
  | 40 => ⟨S8, .f32⟩
  | 41 => ⟨S8, .f32⟩
  | 42 => ⟨S8x1, .f32⟩
  | 43 => ⟨S8x320, .f32⟩
  | 44 => ⟨S8x320, .f32⟩
  | 45 => ⟨S8x320, .f32⟩
  | 46 => ⟨S_, .f32⟩
  | 47 => ⟨S8, .f32⟩
  | 48 => ⟨S8x1, .f32⟩
  | 49 => ⟨S8x320, .f32⟩
  | 50 => ⟨S8x320, .f32⟩
  | 51 => ⟨S2560, .i32⟩
  | 52 => ⟨S1024x1024, .f32⟩
  | 53 => ⟨S2048x1024, .f32⟩
  | 54 => ⟨S1024x1024, .f32⟩
  | 55 => ⟨S2048x1024, .f32⟩
  | 56 => ⟨S1024x1024, .f32⟩
  | 57 => ⟨S2048x1024, .f32⟩
  | 58 => ⟨S_, .i32⟩
  | 59 => ⟨S2560, .i32⟩
  | 60 => ⟨S2560, .i1⟩
  | 61 => ⟨S_, .i32⟩
  | 62 => ⟨S2560, .i32⟩
  | 63 => ⟨S2560, .i32⟩
  | 64 => ⟨S2560, .i32⟩
  | 65 => ⟨S2560x1, .i32⟩
  | 66 => ⟨S1, .i32⟩
  | 67 => ⟨S_, .i32⟩
  | 68 => ⟨S2560x1, .i32⟩
  | 69 => ⟨S2560x1, .i1⟩
  | 70 => ⟨S1x1, .i32⟩
  | 71 => ⟨S2560x1, .i32⟩
  | 72 => ⟨S2560x1, .i1⟩
  | 73 => ⟨S2560x1, .i1⟩
  | 74 => ⟨S_, .i1⟩
  | 75 => ⟨S2560, .i1⟩
  | 76 => ⟨S2560x1024, .f32⟩
  | 77 => ⟨S2560x1024, .i1⟩
  | 78 => ⟨S_, .f32⟩
  | 79 => ⟨S2560x1024, .f32⟩
  | 80 => ⟨S2560x1024, .f32⟩
  | 81 => ⟨S8x5120x64, .f32⟩
  | 82 => ⟨S_, .i32⟩
  | 83 => ⟨S2560, .i32⟩
  | 84 => ⟨S2560, .i1⟩
  | 85 => ⟨S_, .i32⟩
  | 86 => ⟨S2560, .i32⟩
  | 87 => ⟨S2560, .i32⟩
  | 88 => ⟨S2560, .i32⟩
  | 89 => ⟨S2560x1, .i32⟩
  | 90 => ⟨S1, .i32⟩
  | 91 => ⟨S_, .i32⟩
  | 92 => ⟨S2560x1, .i32⟩
  | 93 => ⟨S2560x1, .i1⟩
  | 94 => ⟨S1x1, .i32⟩
  | 95 => ⟨S2560x1, .i32⟩
  | 96 => ⟨S2560x1, .i1⟩
  | 97 => ⟨S2560x1, .i1⟩
  | 98 => ⟨S_, .i1⟩
  | 99 => ⟨S2560, .i1⟩
  | 100 => ⟨S2560x1024, .f32⟩
  | 101 => ⟨S2560x1024, .i1⟩
  | 102 => ⟨S_, .f32⟩
  | 103 => ⟨S2560x1024, .f32⟩
  | 104 => ⟨S2560x1024, .f32⟩
  | 105 => ⟨S8x5120x64, .f32⟩
  | 106 => ⟨S_, .i32⟩
  | 107 => ⟨S2560, .i32⟩
  | 108 => ⟨S2560, .i1⟩
  | 109 => ⟨S_, .i32⟩
  | 110 => ⟨S2560, .i32⟩
  | 111 => ⟨S2560, .i32⟩
  | 112 => ⟨S2560, .i32⟩
  | 113 => ⟨S2560x1, .i32⟩
  | 114 => ⟨S1, .i32⟩
  | 115 => ⟨S_, .i32⟩
  | 116 => ⟨S2560x1, .i32⟩
  | 117 => ⟨S2560x1, .i1⟩
  | 118 => ⟨S1x1, .i32⟩
  | 119 => ⟨S2560x1, .i32⟩
  | 120 => ⟨S2560x1, .i1⟩
  | 121 => ⟨S2560x1, .i1⟩
  | 122 => ⟨S_, .i1⟩
  | 123 => ⟨S2560, .i1⟩
  | 124 => ⟨S2560x1024, .f32⟩
  | 125 => ⟨S2560x1024, .i1⟩
  | 126 => ⟨S_, .f32⟩
  | 127 => ⟨S2560x1024, .f32⟩
  | _ => ⟨S1x2048x1024, .f32⟩

abbrev hbmTy0_1 (i : Nat) : BufTy := match i % 128 with
  | 0 => ⟨S2560x1024, .f32⟩
  | 1 => ⟨S8x5120x64, .f32⟩
  | 2 => ⟨S32, .f32⟩
  | 3 => ⟨S_, .f32⟩
  | 4 => ⟨S32, .f32⟩
  | 5 => ⟨S32, .f32⟩
  | 6 => ⟨S_, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S320, .f32⟩
  | 19 => ⟨S320x1, .f32⟩
  | 20 => ⟨S1x32, .f32⟩
  | 21 => ⟨S320x32, .f32⟩
  | 22 => ⟨S320x32, .f32⟩
  | 23 => ⟨S320x32, .f32⟩
  | 24 => ⟨S320x64, .f32⟩
  | 25 => ⟨S320x64, .f32⟩
  | 26 => ⟨S320x16x64, .f32⟩
  | 27 => ⟨S5120x64, .f32⟩
  | 28 => ⟨S320x64, .f32⟩
  | 29 => ⟨S320x16x64, .f32⟩
  | 30 => ⟨S5120x64, .f32⟩
  | 31 => ⟨S8x5120x64, .f32⟩
  | 32 => ⟨S8x1x1, .f32⟩
  | 33 => ⟨S8x5120x64, .f32⟩
  | 34 => ⟨S2560x1024, .f32⟩
  | 35 => ⟨S2560x1, .f32⟩
  | 36 => ⟨S2560x1024, .f32⟩
  | 37 => ⟨S2560x1024, .f32⟩
  | 38 => ⟨S_, .f32⟩
  | 39 => ⟨S2048x1024, .f32⟩
  | 40 => ⟨S_, .i32⟩
  | 41 => ⟨S2560, .i32⟩
  | 42 => ⟨S2560, .i1⟩
  | 43 => ⟨S_, .i32⟩
  | 44 => ⟨S2560, .i32⟩
  | 45 => ⟨S2560, .i32⟩
  | 46 => ⟨S2560, .i32⟩
  | 47 => ⟨S2560x1, .i32⟩
  | 48 => ⟨S2048x1024, .f32⟩
  | 49 => ⟨S1024x1024, .f32⟩
  | 50 => ⟨S2048x1024, .f32⟩
  | 51 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1x256, .f32⟩
  | .local _ .vmem, ⟨6, _⟩ => ⟨S256x256, .f32⟩
  | .local _ .vmem, ⟨7, _⟩ => ⟨S256x256, .f32⟩
  | .local _ .vmem, ⟨8, _⟩ => ⟨S256x512, .f32⟩
  | .local _ .vmem, ⟨9, _⟩ => ⟨S256x512, .f32⟩
  | .local _ .vmem, ⟨10, _⟩ => ⟨S512x128, .f32⟩
  | .local _ .vmem, ⟨11, _⟩ => ⟨S1x128, .f32⟩
  | .local _ .vmem, ⟨12, _⟩ => ⟨S256x128, .f32⟩
  | .local _ .vmem, ⟨13, _⟩ => ⟨S256x128, .f32⟩
  | .local _ .vmem, ⟨14, _⟩ => ⟨S256x1024, .f32⟩
  | .local _ .vmem, ⟨15, _⟩ => ⟨S256x1024, .f32⟩
  | .local _ .vmem, ⟨16, _⟩ => ⟨S1024x512, .f32⟩
  | .local _ .vmem, ⟨17, _⟩ => ⟨S1024x512, .f32⟩
  | .local _ .vmem, ⟨18, _⟩ => ⟨S256x512, .f32⟩
  | .local _ .vmem, ⟨19, _⟩ => ⟨S256x512, .f32⟩
  | .local _ .vmem, ⟨20, _⟩ => ⟨S256x1024, .f32⟩
  | .local _ .vmem, ⟨21, _⟩ => ⟨S256x1024, .f32⟩
  | .local _ .vmem, ⟨22, _⟩ => ⟨S1024x512, .f32⟩
  | .local _ .vmem, ⟨23, _⟩ => ⟨S1024x512, .f32⟩
  | .local _ .vmem, ⟨24, _⟩ => ⟨S256x512, .f32⟩
  | .local _ .vmem, ⟨25, _⟩ => ⟨S256x512, .f32⟩
  | .local _ .vmem, ⟨26, _⟩ => ⟨S256x1024, .f32⟩
  | .local _ .vmem, ⟨27, _⟩ => ⟨S256x1024, .f32⟩
  | .local _ .vmem, ⟨28, _⟩ => ⟨S1024x512, .f32⟩
  | .local _ .vmem, ⟨29, _⟩ => ⟨S1024x512, .f32⟩
  | .local _ .vmem, ⟨30, _⟩ => ⟨S256x512, .f32⟩
  | .local _ .vmem, ⟨31, _⟩ => ⟨S256x512, .f32⟩
  | .local _ .vmem, ⟨32, _⟩ => ⟨S1x5120x64, .f32⟩
  | .local _ .vmem, ⟨33, _⟩ => ⟨S1x5120x64, .f32⟩
  | .local _ .vmem, ⟨34, _⟩ => ⟨S5120x64, .f32⟩
  | .local _ .vmem, ⟨35, _⟩ => ⟨S5120x64, .f32⟩
  | .local _ .vmem, ⟨36, _⟩ => ⟨S1x5120x64, .f32⟩
  | .local _ .vmem, ⟨37, _⟩ => ⟨S1x5120x64, .f32⟩
  | .local _ .vmem, ⟨38, _⟩ => ⟨S1x512x64, .f32⟩
  | .local _ .vmem, ⟨39, _⟩ => ⟨S1x512x64, .f32⟩
  | .local _ .vmem, ⟨40, _⟩ => ⟨S1x5120x64, .f32⟩
  | .local _ .vmem, ⟨41, _⟩ => ⟨S1x5120x64, .f32⟩
  | .local _ .vmem, ⟨42, _⟩ => ⟨S1x5120x64, .f32⟩
  | .local _ .vmem, ⟨43, _⟩ => ⟨S1x5120x64, .f32⟩
  | .local _ .vmem, ⟨44, _⟩ => ⟨S512x64, .f32⟩
  | .local _ .vmem, ⟨45, _⟩ => ⟨S512x64, .f32⟩
  | .local _ .vmem, ⟨46, _⟩ => ⟨S512x64, .f32⟩
  | .local _ .vmem, ⟨47, _⟩ => ⟨S512x64, .f32⟩
  | .local _ .vmem, ⟨48, _⟩ => ⟨S1x512x64, .f32⟩
  | .local _ .vmem, ⟨49, _⟩ => ⟨S1x512x64, .f32⟩
  | .local _ .vmem, ⟨50, _⟩ => ⟨S256x1024, .f32⟩
  | .local _ .vmem, ⟨51, _⟩ => ⟨S256x1024, .f32⟩
  | .local _ .vmem, ⟨52, _⟩ => ⟨S1024x512, .f32⟩
  | .local _ .vmem, ⟨53, _⟩ => ⟨S1024x512, .f32⟩
  | .local _ .vmem, ⟨54, _⟩ => ⟨S256x512, .f32⟩
  | .local _ .vmem, ⟨55, _⟩ => ⟨S256x512, .f32⟩
  | .local _ .smem, ⟨0, _⟩ => ⟨S1x1x1, .f32⟩
  | .local _ .smem, ⟨1, _⟩ => ⟨S1x1x1, .f32⟩
  | .local _ .smem, ⟨2, _⟩ => ⟨S1x1x1, .f32⟩
  | .local _ .smem, ⟨3, _⟩ => ⟨S1x1x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_c_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_values : Ref sig .tc := ⟨.hbm, 35, rfl⟩
abbrev main_indices : Ref sig .tc := ⟨.hbm, 36, rfl⟩
abbrev main_cst_5 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call0_c : Ref sig .tc := ⟨.hbm, 58, rfl⟩
abbrev main_call0_v0 : Ref sig .tc := ⟨.hbm, 59, rfl⟩
abbrev main_call0_v1 : Ref sig .tc := ⟨.hbm, 60, rfl⟩
abbrev main_call0_c_0 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_c_1 : Ref sig .tc := ⟨.hbm, 66, rfl⟩
abbrev main_call0_c_2 : Ref sig .tc := ⟨.hbm, 67, rfl⟩
abbrev main_call0_v6 : Ref sig .tc := ⟨.hbm, 68, rfl⟩
abbrev main_call0_v7 : Ref sig .tc := ⟨.hbm, 69, rfl⟩
abbrev main_call0_v8 : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_3 : Ref sig .tc := ⟨.hbm, 74, rfl⟩
abbrev main_call0_v12 : Ref sig .tc := ⟨.hbm, 75, rfl⟩
abbrev main_call0_v13 : Ref sig .tc := ⟨.hbm, 76, rfl⟩
abbrev main_call0_v14 : Ref sig .tc := ⟨.hbm, 77, rfl⟩
abbrev main_call0_cst : Ref sig .tc := ⟨.hbm, 78, rfl⟩
abbrev main_call0_v15 : Ref sig .tc := ⟨.hbm, 79, rfl⟩
abbrev main_v37 : Ref sig .tc := ⟨.hbm, 80, rfl⟩
abbrev main_v38 : Ref sig .tc := ⟨.hbm, 81, rfl⟩
abbrev main_call1_c : Ref sig .tc := ⟨.hbm, 82, rfl⟩
abbrev main_call1_v0 : Ref sig .tc := ⟨.hbm, 83, rfl⟩
abbrev main_call1_v1 : Ref sig .tc := ⟨.hbm, 84, rfl⟩
abbrev main_call1_c_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_c_1 : Ref sig .tc := ⟨.hbm, 90, rfl⟩
abbrev main_call1_c_2 : Ref sig .tc := ⟨.hbm, 91, rfl⟩
abbrev main_call1_v6 : Ref sig .tc := ⟨.hbm, 92, rfl⟩
abbrev main_call1_v7 : Ref sig .tc := ⟨.hbm, 93, rfl⟩
abbrev main_call1_v8 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_3 : Ref sig .tc := ⟨.hbm, 98, rfl⟩
abbrev main_call1_v12 : Ref sig .tc := ⟨.hbm, 99, rfl⟩
abbrev main_call1_v13 : Ref sig .tc := ⟨.hbm, 100, rfl⟩
abbrev main_call1_v14 : Ref sig .tc := ⟨.hbm, 101, rfl⟩
abbrev main_call1_cst : Ref sig .tc := ⟨.hbm, 102, rfl⟩
abbrev main_call1_v15 : Ref sig .tc := ⟨.hbm, 103, rfl⟩
abbrev main_v39 : Ref sig .tc := ⟨.hbm, 104, rfl⟩
abbrev main_v40 : Ref sig .tc := ⟨.hbm, 105, rfl⟩
abbrev main_call2_c : Ref sig .tc := ⟨.hbm, 106, rfl⟩
abbrev main_call2_v0 : Ref sig .tc := ⟨.hbm, 107, rfl⟩
abbrev main_call2_v1 : Ref sig .tc := ⟨.hbm, 108, rfl⟩
abbrev main_call2_c_0 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_c_1 : Ref sig .tc := ⟨.hbm, 114, rfl⟩
abbrev main_call2_c_2 : Ref sig .tc := ⟨.hbm, 115, rfl⟩
abbrev main_call2_v6 : Ref sig .tc := ⟨.hbm, 116, rfl⟩
abbrev main_call2_v7 : Ref sig .tc := ⟨.hbm, 117, rfl⟩
abbrev main_call2_v8 : Ref sig .tc := ⟨.hbm, 118, rfl⟩
abbrev main_call2_v9 : Ref sig .tc := ⟨.hbm, 119, rfl⟩
abbrev main_call2_v10 : Ref sig .tc := ⟨.hbm, 120, rfl⟩
abbrev main_call2_v11 : Ref sig .tc := ⟨.hbm, 121, rfl⟩
abbrev main_call2_c_3 : Ref sig .tc := ⟨.hbm, 122, rfl⟩
abbrev main_call2_v12 : Ref sig .tc := ⟨.hbm, 123, rfl⟩
abbrev main_call2_v13 : Ref sig .tc := ⟨.hbm, 124, rfl⟩
abbrev main_call2_v14 : Ref sig .tc := ⟨.hbm, 125, rfl⟩
abbrev main_call2_cst : Ref sig .tc := ⟨.hbm, 126, rfl⟩
abbrev main_call2_v15 : Ref sig .tc := ⟨.hbm, 127, rfl⟩
abbrev main_v41 : Ref sig .tc := ⟨.hbm, 128, rfl⟩
abbrev main_v42 : Ref sig .tc := ⟨.hbm, 129, rfl⟩
abbrev main_v43 : Ref sig .tc := ⟨.hbm, 130, rfl⟩
abbrev main_cst_8 : Ref sig .tc := ⟨.hbm, 131, rfl⟩
abbrev main_v44 : Ref sig .tc := ⟨.hbm, 132, rfl⟩
abbrev main_v45 : Ref sig .tc := ⟨.hbm, 133, rfl⟩
abbrev main_cst_9 : Ref sig .tc := ⟨.hbm, 134, rfl⟩
abbrev main_v46 : Ref sig .tc := ⟨.hbm, 135, rfl⟩
abbrev main_v47 : Ref sig .tc := ⟨.hbm, 136, rfl⟩
abbrev main_cst_10 : Ref sig .tc := ⟨.hbm, 137, rfl⟩
abbrev main_v48 : Ref sig .tc := ⟨.hbm, 138, rfl⟩
abbrev main_v49 : Ref sig .tc := ⟨.hbm, 139, rfl⟩
abbrev main_cst_11 : Ref sig .tc := ⟨.hbm, 140, rfl⟩
abbrev main_v50 : Ref sig .tc := ⟨.hbm, 141, rfl⟩
abbrev main_v51 : Ref sig .tc := ⟨.hbm, 142, rfl⟩
abbrev main_cst_12 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_v61 : Ref sig .tc := ⟨.hbm, 153, rfl⟩
abbrev main_v62 : Ref sig .tc := ⟨.hbm, 154, rfl⟩
abbrev main_v63 : Ref sig .tc := ⟨.hbm, 155, rfl⟩
abbrev main_v64 : Ref sig .tc := ⟨.hbm, 156, rfl⟩
abbrev main_v65 : Ref sig .tc := ⟨.hbm, 157, rfl⟩
abbrev main_v66 : Ref sig .tc := ⟨.hbm, 158, rfl⟩
abbrev main_v67_0 : Ref sig .tc := ⟨.hbm, 159, rfl⟩
abbrev main_v67_1 : Ref sig .tc := ⟨.hbm, 160, rfl⟩
abbrev main_v68 : Ref sig .tc := ⟨.hbm, 161, rfl⟩
abbrev main_v69 : Ref sig .tc := ⟨.hbm, 162, rfl⟩
abbrev main_v70 : Ref sig .tc := ⟨.hbm, 163, rfl⟩
abbrev main_v71 : Ref sig .tc := ⟨.hbm, 164, rfl⟩
abbrev main_v72 : Ref sig .tc := ⟨.hbm, 165, rfl⟩
abbrev main_cst_13 : Ref sig .tc := ⟨.hbm, 166, rfl⟩
abbrev main_v73 : Ref sig .tc := ⟨.hbm, 167, rfl⟩
abbrev main_c_14 : Ref sig .tc := ⟨.hbm, 168, rfl⟩
abbrev main_v74 : Ref sig .tc := ⟨.hbm, 169, rfl⟩
abbrev main_v75 : Ref sig .tc := ⟨.hbm, 170, rfl⟩
abbrev main_c_15 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg2_0 : Ref sig .tc := ⟨.vmem, 35, rfl⟩
abbrev cc5_stg3_0 : Ref sig .tc := ⟨.vmem, 36, rfl⟩
abbrev cc5_stg3_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg2_1 : Ref sig .tc := ⟨.vmem, 41, rfl⟩
abbrev cc6_stg3_0 : Ref sig .tc := ⟨.vmem, 42, rfl⟩
abbrev cc6_stg3_1 : Ref sig .tc := ⟨.vmem, 43, rfl⟩
abbrev cc6_stg4_0 : Ref sig .tc := ⟨.vmem, 44, rfl⟩
abbrev cc6_stg4_1 : Ref sig .tc := ⟨.vmem, 45, rfl⟩
abbrev cc6_stg5_0 : Ref sig .tc := ⟨.vmem, 46, rfl⟩
abbrev cc6_stg5_1 : Ref sig .tc := ⟨.vmem, 47, rfl⟩
abbrev cc6_stg6_0 : Ref sig .tc := ⟨.vmem, 48, rfl⟩
abbrev cc6_stg6_1 : Ref sig .tc := ⟨.vmem, 49, rfl⟩
abbrev cc7_stg0_0 : Ref sig .tc := ⟨.vmem, 50, rfl⟩
abbrev cc7_stg0_1 : Ref sig .tc := ⟨.vmem, 51, rfl⟩
abbrev cc7_stg1_0 : Ref sig .tc := ⟨.vmem, 52, rfl⟩
abbrev cc7_stg1_1 : Ref sig .tc := ⟨.vmem, 53, rfl⟩
abbrev cc7_stg2_0 : Ref sig .tc := ⟨.vmem, 54, rfl⟩
abbrev cc7_stg2_1 : Ref sig .tc := ⟨.vmem, 55, rfl⟩
abbrev cc5_stg4_0 : Ref sig .tc := ⟨.smem, 0, rfl⟩
abbrev cc5_stg4_1 : Ref sig .tc := ⟨.smem, 1, rfl⟩
abbrev cc6_stg0_0 : Ref sig .tc := ⟨.smem, 2, rfl⟩
abbrev cc6_stg0_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem2_0 : DmaSem sig := 35
abbrev cc5_sem3_0 : DmaSem sig := 36
abbrev cc5_sem3_1 : DmaSem sig := 37
abbrev cc5_sem4_0 : DmaSem sig := 38
abbrev cc5_sem4_1 : DmaSem sig := 39
abbrev cc6_sem0_0 : DmaSem sig := 40
abbrev cc6_sem0_1 : DmaSem sig := 41
abbrev cc6_sem1_0 : DmaSem sig := 42
abbrev cc6_sem1_1 : DmaSem sig := 43
abbrev cc6_sem2_0 : DmaSem sig := 44
abbrev cc6_sem2_1 : DmaSem sig := 45
abbrev cc6_sem3_0 : DmaSem sig := 46
abbrev cc6_sem3_1 : DmaSem sig := 47
abbrev cc6_sem4_0 : DmaSem sig := 48
abbrev cc6_sem4_1 : DmaSem sig := 49
abbrev cc6_sem5_0 : DmaSem sig := 50
abbrev cc6_sem5_1 : DmaSem sig := 51
abbrev cc6_sem6_0 : DmaSem sig := 52
abbrev cc6_sem6_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem2_1 : DmaSem sig := 59

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S512x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, true]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S256x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S1x5120x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S5120x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S5120x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1x5120x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .smem S1x1x1 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨2, ![8, 10], ![false, false]⟩

@[reducible] def k6_t1_loop (i : grid6.Coords) : Scf.Loop 32 :=
  let c0_i32 : BitVec 32 := 0#32
  let arg1 : BitVec 32 := BitVec.ofNat 32 (i 1).val
  let v34 : BitVec 32 := Scalar.subi arg1 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_15 : BitVec 32 := 1#32
  ⟨c0_i32, v38, c1_i32_15⟩
def k6_off1 (i : grid6.Coords) (k6_t1 : Fin (k6_t1_loop i).trips) : Fin 3 → Nat :=
  let c0_32 : Index := 0#32
  let c0_i32 : BitVec 32 := 0#32
  let c1_i32_15 : BitVec 32 := 1#32
  let arg9 : BitVec 32 := Scf.iv c0_i32 c1_i32_15 k6_t1
  let c512_i32_31 : BitVec 32 := 512#32
  let v73 : BitVec 32 := Scalar.muli arg9 c512_i32_31
  let v74 : Index := Scalar.indexCast v73
  let c0_33 : Index := 0#32
  ![0, v74.toNat, 0]
@[reducible] def k6_t2_loop (i : grid6.Coords) : Scf.Loop 32 :=
  let c0_i32 : BitVec 32 := 0#32
  let arg1 : BitVec 32 := BitVec.ofNat 32 (i 1).val
  let v34 : BitVec 32 := Scalar.subi arg1 c0_i32
  let c1_i32 : BitVec 32 := 1#32
  let v36 : BitVec 32 := Scalar.divsi v34 c1_i32
  let v37 : BitVec 32 := Scalar.muli v36 c1_i32
  let v38 : BitVec 32 := Scalar.addi c0_i32 v37
  let v35 : BitVec 32 := Scalar.addi c0_i32 v34
  let c1_i32_16 : BitVec 32 := 1#32
  ⟨v38, v35, c1_i32_16⟩
def k6_off2 (i : grid6.Coords) (k6_t2 : Fin (k6_t2_loop i).trips) : Fin 3 → Nat :=
  let c0_32 : Index := 0#32
  let c0_i32 : BitVec 32 := 0#32
  let arg1 : BitVec 32 := BitVec.ofNat 32 (i 1).val
  let v34 : BitVec 32 := Scalar.subi arg1 c0_i32
  let c1_i32 : BitVec 32 := 1#32
  let v36 : BitVec 32 := Scalar.divsi v34 c1_i32
  let v37 : BitVec 32 := Scalar.muli v36 c1_i32
  let v38 : BitVec 32 := Scalar.addi c0_i32 v37
  let c1_i32_16 : BitVec 32 := 1#32
  let arg9 : BitVec 32 := Scf.iv v38 c1_i32_16 k6_t2
  let c512_i32_31 : BitVec 32 := 512#32
  let v73 : BitVec 32 := Scalar.muli arg9 c512_i32_31
  let v74 : Index := Scalar.indexCast v73
  let c0_33 : Index := 0#32
  ![0, v74.toNat, 0]
def k6_off3 (i : grid6.Coords) : Fin 3 → Nat :=
  let c0_18 : Index := 0#32
  let arg1 : BitVec 32 := BitVec.ofNat 32 (i 1).val
  let c512_i32_17 : BitVec 32 := 512#32
  let v41 : BitVec 32 := Scalar.muli arg1 c512_i32_17
  let v42 : Index := Scalar.indexCast v41
  let c0_19 : Index := 0#32
  ![0, v42.toNat, 0]
def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_2 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_4 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_5 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .smem S1x1x1 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1x512x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, true]

abbrev stage6_2 : Fin 2 → Memref sig .tc .vmem S1x5120x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1x5120x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev stage6_4 : Fin 2 → Memref sig .tc .vmem S512x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![false, true]

abbrev stage6_5 : Fin 2 → Memref sig .tc .vmem S512x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![false, true]

abbrev stage6_6 : Fin 2 → Memref sig .tc .vmem S1x512x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true, true]

abbrev grid7 : Pipeline.Grid := ⟨2, ![8, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x512 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S256x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== ReferenceIdeal.lean ====
abbrev S1x2048x1024 : Shape := ⟨3, ![1, 2048, 1024]⟩
abbrev S1024x1024 : Shape := ⟨2, ![1024, 1024]⟩
abbrev S512x1024 : Shape := ⟨2, ![512, 1024]⟩
abbrev S512 : Shape := ⟨1, ![512]⟩
abbrev S8x512 : Shape := ⟨2, ![8, 512]⟩
abbrev S8 : Shape := ⟨1, ![8]⟩
abbrev S2048x1024 : Shape := ⟨2, ![2048, 1024]⟩
abbrev S1024x512 : Shape := ⟨2, ![1024, 512]⟩
abbrev S2048x512 : Shape := ⟨2, ![2048, 512]⟩
abbrev S1x512 : Shape := ⟨2, ![1, 512]⟩
abbrev S_ : Shape := ⟨0, ![]⟩
abbrev S512x8 : Shape := ⟨2, ![512, 8]⟩
abbrev S2048x8 : Shape := ⟨2, ![2048, 8]⟩
abbrev S1x8 : Shape := ⟨2, ![1, 8]⟩
abbrev S8x2048 : Shape := ⟨2, ![8, 2048]⟩
abbrev S8x320 : Shape := ⟨2, ![8, 320]⟩
abbrev S8x1 : Shape := ⟨2, ![8, 1]⟩
abbrev S2048 : Shape := ⟨1, ![2048]⟩
abbrev S2048x16x64 : Shape := ⟨3, ![2048, 16, 64]⟩
abbrev S32 : Shape := ⟨1, ![32]⟩
abbrev S320 : Shape := ⟨1, ![320]⟩
abbrev S320x1 : Shape := ⟨2, ![320, 1]⟩
abbrev S1x32 : Shape := ⟨2, ![1, 32]⟩
abbrev S320x32 : Shape := ⟨2, ![320, 32]⟩
abbrev S320x64 : Shape := ⟨2, ![320, 64]⟩
abbrev S1x320x1x64 : Shape := ⟨4, ![1, 320, 1, 64]⟩
abbrev S5120x5120 : Shape := ⟨2, ![5120, 5120]⟩
abbrev S8x320x1 : Shape := ⟨3, ![8, 320, 1]⟩
abbrev S1 : Shape := ⟨1, ![1]⟩
abbrev S1x1x1 : Shape := ⟨3, ![1, 1, 1]⟩
abbrev S8x320x16x64 : Shape := ⟨4, ![8, 320, 16, 64]⟩
abbrev S8x320x16x32 : Shape := ⟨4, ![8, 320, 16, 32]⟩
abbrev S8x5120x64 : Shape := ⟨3, ![8, 5120, 64]⟩
abbrev S8x5120x5120 : Shape := ⟨3, ![8, 5120, 5120]⟩
abbrev S1x5120x5120 : Shape := ⟨3, ![1, 5120, 5120]⟩
abbrev S8x5120 : Shape := ⟨2, ![8, 5120]⟩
abbrev S8x5120x1 : Shape := ⟨3, ![8, 5120, 1]⟩
abbrev S8x320x1024 : Shape := ⟨3, ![8, 320, 1024]⟩

abbrev nBuf : Space → Nat
  | .hbm => 241
  | .vmem => 0
  | .smem => 0
  | _ => 0

abbrev hbmTy0_0 (i : Nat) : BufTy := match i % 128 with
  | 0 => ⟨S1x2048x1024, .f32⟩
  | 1 => ⟨S1024x1024, .f32⟩
  | 2 => ⟨S1024x1024, .f32⟩
  | 3 => ⟨S1024x1024, .f32⟩
  | 4 => ⟨S1024x1024, .f32⟩
  | 5 => ⟨S512x1024, .f32⟩
  | 6 => ⟨S512, .f32⟩
  | 7 => ⟨S8x512, .f32⟩
  | 8 => ⟨S8, .f32⟩
  | 9 => ⟨S2048x1024, .f32⟩
  | 10 => ⟨S1024x512, .f32⟩
  | 11 => ⟨S2048x512, .f32⟩
  | 12 => ⟨S1x512, .f32⟩
  | 13 => ⟨S2048x512, .f32⟩
  | 14 => ⟨S2048x512, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S2048x512, .f32⟩
  | 21 => ⟨S_, .f32⟩
  | 22 => ⟨S2048x512, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S_, .f32⟩
  | 29 => ⟨S2048x512, .f32⟩
  | 30 => ⟨S2048x512, .f32⟩
  | 31 => ⟨S2048x512, .f32⟩
  | 32 => ⟨S512x8, .f32⟩
  | 33 => ⟨S2048x8, .f32⟩
  | 34 => ⟨S1x8, .f32⟩
  | 35 => ⟨S2048x8, .f32⟩
  | 36 => ⟨S2048x8, .f32⟩
  | 37 => ⟨S8x2048, .f32⟩
  | 38 => ⟨S8x320, .f32⟩
  | 39 => ⟨S8x320, .i32⟩
  | 40 => ⟨S_, .f32⟩
  | 41 => ⟨S8, .f32⟩
  | 42 => ⟨S_, .f32⟩
  | 43 => ⟨S8, .f32⟩
  | 44 => ⟨S8, .f32⟩
  | 45 => ⟨S8x1, .f32⟩
  | 46 => ⟨S8x320, .f32⟩
  | 47 => ⟨S8x320, .f32⟩
  | 48 => ⟨S8x320, .f32⟩
  | 49 => ⟨S_, .f32⟩
  | 50 => ⟨S8, .f32⟩
  | 51 => ⟨S8x1, .f32⟩
  | 52 => ⟨S8x320, .f32⟩
  | 53 => ⟨S8x320, .f32⟩
  | 54 => ⟨S_, .f32⟩
  | 55 => ⟨S2048, .f32⟩
  | 56 => ⟨S_, .f32⟩
  | 57 => ⟨S_, .f32⟩
  | 58 => ⟨S_, .f32⟩
  | 59 => ⟨S_, .f32⟩
  | 60 => ⟨S_, .f32⟩
  | 61 => ⟨S1024x1024, .f32⟩
  | 62 => ⟨S2048x1024, .f32⟩
  | 63 => ⟨S2048x16x64, .f32⟩
  | 64 => ⟨S1024x1024, .f32⟩
  | 65 => ⟨S2048x1024, .f32⟩
  | 66 => ⟨S2048x16x64, .f32⟩
  | 67 => ⟨S1024x1024, .f32⟩
  | 68 => ⟨S2048x1024, .f32⟩
  | 69 => ⟨S2048x16x64, .f32⟩
  | 70 => ⟨S32, .f32⟩
  | 71 => ⟨S_, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S_, .f32⟩
  | 81 => ⟨S32, .f32⟩
  | 82 => ⟨S32, .f32⟩
  | 83 => ⟨S_, .f32⟩
  | 84 => ⟨S32, .f32⟩
  | 85 => ⟨S32, .f32⟩
  | 86 => ⟨S320, .f32⟩
  | 87 => ⟨S320x1, .f32⟩
  | 88 => ⟨S1x32, .f32⟩
  | 89 => ⟨S320x32, .f32⟩
  | 90 => ⟨S320x32, .f32⟩
  | 91 => ⟨S320x32, .f32⟩
  | 92 => ⟨S320x64, .f32⟩
  | 93 => ⟨S320x64, .f32⟩
  | 94 => ⟨S1x320x1x64, .f32⟩
  | 95 => ⟨S320x64, .f32⟩
  | 96 => ⟨S1x320x1x64, .f32⟩
  | 97 => ⟨S_, .i1⟩
  | 98 => ⟨S5120x5120, .i1⟩
  | 99 => ⟨S5120x5120, .i32⟩
  | 100 => ⟨S_, .i32⟩
  | 101 => ⟨S5120x5120, .i32⟩
  | 102 => ⟨S5120x5120, .i32⟩
  | 103 => ⟨S5120x5120, .i32⟩
  | 104 => ⟨S5120x5120, .i1⟩
  | 105 => ⟨S_, .i1⟩
  | 106 => ⟨S5120x5120, .i1⟩
  | 107 => ⟨S5120x5120, .i1⟩
  | 108 => ⟨S_, .i32⟩
  | 109 => ⟨S8x320, .i32⟩
  | 110 => ⟨S8x320, .i1⟩
  | 111 => ⟨S_, .i32⟩
  | 112 => ⟨S8x320, .i32⟩
  | 113 => ⟨S8x320, .i32⟩
  | 114 => ⟨S8x320, .i32⟩
  | 115 => ⟨S8x320x1, .i32⟩
  | 116 => ⟨S1, .i32⟩
  | 117 => ⟨S_, .i32⟩
  | 118 => ⟨S8x320x1, .i32⟩
  | 119 => ⟨S8x320x1, .i1⟩
  | 120 => ⟨S1x1x1, .i32⟩
  | 121 => ⟨S8x320x1, .i32⟩
  | 122 => ⟨S8x320x1, .i1⟩
  | 123 => ⟨S8x320x1, .i1⟩
  | 124 => ⟨S_, .i1⟩
  | 125 => ⟨S8x320, .i1⟩
  | 126 => ⟨S8x320x16x64, .f32⟩
  | 127 => ⟨S8x320x16x64, .i1⟩
  | _ => ⟨S1x2048x1024, .f32⟩

abbrev hbmTy0_1 (i : Nat) : BufTy := match i % 128 with
  | 0 => ⟨S_, .f32⟩
  | 1 => ⟨S8x320x16x64, .f32⟩
  | 2 => ⟨S8x320x16x64, .f32⟩
  | 3 => ⟨S_, .i32⟩
  | 4 => ⟨S8x320, .i32⟩
  | 5 => ⟨S8x320, .i1⟩
  | 6 => ⟨S_, .i32⟩
  | 7 => ⟨S8x320, .i32⟩
  | 8 => ⟨S8x320, .i32⟩
  | 9 => ⟨S8x320, .i32⟩
  | 10 => ⟨S8x320x1, .i32⟩
  | 11 => ⟨S1, .i32⟩
  | 12 => ⟨S_, .i32⟩
  | 13 => ⟨S8x320x1, .i32⟩
  | 14 => ⟨S8x320x1, .i1⟩
  | 15 => ⟨S1x1x1, .i32⟩
  | 16 => ⟨S8x320x1, .i32⟩
  | 17 => ⟨S8x320x1, .i1⟩
  | 18 => ⟨S8x320x1, .i1⟩
  | 19 => ⟨S_, .i1⟩
  | 20 => ⟨S8x320, .i1⟩
  | 21 => ⟨S8x320x16x64, .f32⟩
  | 22 => ⟨S8x320x16x64, .i1⟩
  | 23 => ⟨S_, .f32⟩
  | 24 => ⟨S8x320x16x64, .f32⟩
  | 25 => ⟨S8x320x16x64, .f32⟩
  | 26 => ⟨S_, .i32⟩
  | 27 => ⟨S8x320, .i32⟩
  | 28 => ⟨S8x320, .i1⟩
  | 29 => ⟨S_, .i32⟩
  | 30 => ⟨S8x320, .i32⟩
  | 31 => ⟨S8x320, .i32⟩
  | 32 => ⟨S8x320, .i32⟩
  | 33 => ⟨S8x320x1, .i32⟩
  | 34 => ⟨S1, .i32⟩
  | 35 => ⟨S_, .i32⟩
  | 36 => ⟨S8x320x1, .i32⟩
  | 37 => ⟨S8x320x1, .i1⟩
  | 38 => ⟨S1x1x1, .i32⟩
  | 39 => ⟨S8x320x1, .i32⟩
  | 40 => ⟨S8x320x1, .i1⟩
  | 41 => ⟨S8x320x1, .i1⟩
  | 42 => ⟨S_, .i1⟩
  | 43 => ⟨S8x320, .i1⟩
  | 44 => ⟨S8x320x16x64, .f32⟩
  | 45 => ⟨S8x320x16x64, .i1⟩
  | 46 => ⟨S_, .f32⟩
  | 47 => ⟨S8x320x16x64, .f32⟩
  | 48 => ⟨S8x320x16x64, .f32⟩
  | 49 => ⟨S8x320x16x64, .f32⟩
  | 50 => ⟨S8x320x16x64, .f32⟩
  | 51 => ⟨S8x320x16x32, .f32⟩
  | 52 => ⟨S8x320x16x32, .f32⟩
  | 53 => ⟨S8x320x16x32, .f32⟩
  | 54 => ⟨S8x320x16x64, .f32⟩
  | 55 => ⟨S8x320x16x64, .f32⟩
  | 56 => ⟨S8x320x16x64, .f32⟩
  | 57 => ⟨S8x320x16x64, .f32⟩
  | 58 => ⟨S8x320x16x64, .f32⟩
  | 59 => ⟨S8x320x16x64, .f32⟩
  | 60 => ⟨S8x320x16x32, .f32⟩
  | 61 => ⟨S8x320x16x32, .f32⟩
  | 62 => ⟨S8x320x16x32, .f32⟩
  | 63 => ⟨S8x320x16x64, .f32⟩
  | 64 => ⟨S8x320x16x64, .f32⟩
  | 65 => ⟨S8x320x16x64, .f32⟩
  | 66 => ⟨S8x320x16x64, .f32⟩
  | 67 => ⟨S8x5120x64, .f32⟩
  | 68 => ⟨S8x5120x64, .f32⟩
  | 69 => ⟨S8x5120x64, .f32⟩
  | 70 => ⟨S8x5120x5120, .f32⟩
  | 71 => ⟨S_, .f32⟩
  | 72 => ⟨S8x5120x5120, .f32⟩
  | 73 => ⟨S8x5120x5120, .f32⟩
  | 74 => ⟨S1x5120x5120, .i1⟩
  | 75 => ⟨S_, .f32⟩
  | 76 => ⟨S_, .f32⟩
  | 77 => ⟨S8x5120x5120, .i1⟩
  | 78 => ⟨S8x5120x5120, .f32⟩
  | 79 => ⟨S8x5120x5120, .f32⟩
  | 80 => ⟨S_, .f32⟩
  | 81 => ⟨S8x5120, .f32⟩
  | 82 => ⟨S_, .f32⟩
  | 83 => ⟨S8x5120, .f32⟩
  | 84 => ⟨S8x5120, .f32⟩
  | 85 => ⟨S8x5120x1, .f32⟩
  | 86 => ⟨S8x5120x5120, .f32⟩
  | 87 => ⟨S8x5120x5120, .f32⟩
  | 88 => ⟨S8x5120x5120, .f32⟩
  | 89 => ⟨S_, .f32⟩
  | 90 => ⟨S8x5120, .f32⟩
  | 91 => ⟨S8x5120x1, .f32⟩
  | 92 => ⟨S8x5120x5120, .f32⟩
  | 93 => ⟨S8x5120x5120, .f32⟩
  | 94 => ⟨S8x5120x64, .f32⟩
  | 95 => ⟨S8x320x1024, .f32⟩
  | 96 => ⟨S_, .f32⟩
  | 97 => ⟨S2048x1024, .f32⟩
  | 98 => ⟨S8x320x1, .f32⟩
  | 99 => ⟨S8x320x1024, .f32⟩
  | 100 => ⟨S8x320x1024, .f32⟩
  | 101 => ⟨S_, .i32⟩
  | 102 => ⟨S8x320, .i32⟩
  | 103 => ⟨S8x320, .i1⟩
  | 104 => ⟨S_, .i32⟩
  | 105 => ⟨S8x320, .i32⟩
  | 106 => ⟨S8x320, .i32⟩
  | 107 => ⟨S8x320, .i32⟩
  | 108 => ⟨S8x320x1, .i32⟩
  | 109 => ⟨S2048x1024, .f32⟩
  | 110 => ⟨S1024x1024, .f32⟩
  | 111 => ⟨S2048x1024, .f32⟩
  | 112 => ⟨S1x2048x1024, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_values : Ref sig .tc := ⟨.hbm, 38, rfl⟩
abbrev main_indices : Ref sig .tc := ⟨.hbm, 39, rfl⟩
abbrev main_cst_3 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_cst_11 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_c : Ref sig .tc := ⟨.hbm, 97, rfl⟩
abbrev main_v71 : Ref sig .tc := ⟨.hbm, 98, rfl⟩
abbrev main_call0_v0 : Ref sig .tc := ⟨.hbm, 99, rfl⟩
abbrev main_call0_c : Ref sig .tc := ⟨.hbm, 100, rfl⟩
abbrev main_call0_v1 : Ref sig .tc := ⟨.hbm, 101, rfl⟩
abbrev main_call0_v2 : Ref sig .tc := ⟨.hbm, 102, rfl⟩
abbrev main_call0_v3 : Ref sig .tc := ⟨.hbm, 103, rfl⟩
abbrev main_call0_v4 : Ref sig .tc := ⟨.hbm, 104, rfl⟩
abbrev main_call0_c_0 : Ref sig .tc := ⟨.hbm, 105, rfl⟩
abbrev main_call0_v5 : Ref sig .tc := ⟨.hbm, 106, rfl⟩
abbrev main_v72 : Ref sig .tc := ⟨.hbm, 107, rfl⟩
abbrev main_call1_c : Ref sig .tc := ⟨.hbm, 108, rfl⟩
abbrev main_call1_v0 : Ref sig .tc := ⟨.hbm, 109, rfl⟩
abbrev main_call1_v1 : Ref sig .tc := ⟨.hbm, 110, rfl⟩
abbrev main_call1_c_0 : Ref sig .tc := ⟨.hbm, 111, rfl⟩
abbrev main_call1_v2 : Ref sig .tc := ⟨.hbm, 112, rfl⟩
abbrev main_call1_v3 : Ref sig .tc := ⟨.hbm, 113, rfl⟩
abbrev main_call1_v4 : Ref sig .tc := ⟨.hbm, 114, rfl⟩
abbrev main_call1_v5 : Ref sig .tc := ⟨.hbm, 115, rfl⟩
abbrev main_call1_c_1 : Ref sig .tc := ⟨.hbm, 116, rfl⟩
abbrev main_call1_c_2 : Ref sig .tc := ⟨.hbm, 117, rfl⟩
abbrev main_call1_v6 : Ref sig .tc := ⟨.hbm, 118, rfl⟩
abbrev main_call1_v7 : Ref sig .tc := ⟨.hbm, 119, rfl⟩
abbrev main_call1_v8 : Ref sig .tc := ⟨.hbm, 120, rfl⟩
abbrev main_call1_v9 : Ref sig .tc := ⟨.hbm, 121, rfl⟩
abbrev main_call1_v10 : Ref sig .tc := ⟨.hbm, 122, rfl⟩
abbrev main_call1_v11 : Ref sig .tc := ⟨.hbm, 123, rfl⟩
abbrev main_call1_c_3 : Ref sig .tc := ⟨.hbm, 124, rfl⟩
abbrev main_call1_v12 : Ref sig .tc := ⟨.hbm, 125, rfl⟩
abbrev main_call1_v13 : Ref sig .tc := ⟨.hbm, 126, rfl⟩
abbrev main_call1_v14 : Ref sig .tc := ⟨.hbm, 127, rfl⟩
abbrev main_call1_cst : Ref sig .tc := ⟨.hbm, 128, rfl⟩
abbrev main_call1_v15 : Ref sig .tc := ⟨.hbm, 129, rfl⟩
abbrev main_v73 : Ref sig .tc := ⟨.hbm, 130, rfl⟩
abbrev main_call2_c : Ref sig .tc := ⟨.hbm, 131, rfl⟩
abbrev main_call2_v0 : Ref sig .tc := ⟨.hbm, 132, rfl⟩
abbrev main_call2_v1 : Ref sig .tc := ⟨.hbm, 133, rfl⟩
abbrev main_call2_c_0 : Ref sig .tc := ⟨.hbm, 134, rfl⟩
abbrev main_call2_v2 : Ref sig .tc := ⟨.hbm, 135, rfl⟩
abbrev main_call2_v3 : Ref sig .tc := ⟨.hbm, 136, rfl⟩
abbrev main_call2_v4 : Ref sig .tc := ⟨.hbm, 137, rfl⟩
abbrev main_call2_v5 : Ref sig .tc := ⟨.hbm, 138, rfl⟩
abbrev main_call2_c_1 : Ref sig .tc := ⟨.hbm, 139, rfl⟩
abbrev main_call2_c_2 : Ref sig .tc := ⟨.hbm, 140, rfl⟩
abbrev main_call2_v6 : Ref sig .tc := ⟨.hbm, 141, rfl⟩
abbrev main_call2_v7 : Ref sig .tc := ⟨.hbm, 142, rfl⟩
abbrev main_call2_v8 : Ref sig .tc := ⟨.hbm, 143, rfl⟩
abbrev main_call2_v9 : Ref sig .tc := ⟨.hbm, 144, rfl⟩
abbrev main_call2_v10 : Ref sig .tc := ⟨.hbm, 145, rfl⟩
abbrev main_call2_v11 : Ref sig .tc := ⟨.hbm, 146, rfl⟩
abbrev main_call2_c_3 : Ref sig .tc := ⟨.hbm, 147, rfl⟩
abbrev main_call2_v12 : Ref sig .tc := ⟨.hbm, 148, rfl⟩
abbrev main_call2_v13 : Ref sig .tc := ⟨.hbm, 149, rfl⟩
abbrev main_call2_v14 : Ref sig .tc := ⟨.hbm, 150, rfl⟩
abbrev main_call2_cst : Ref sig .tc := ⟨.hbm, 151, rfl⟩
abbrev main_call2_v15 : Ref sig .tc := ⟨.hbm, 152, rfl⟩
abbrev main_v74 : Ref sig .tc := ⟨.hbm, 153, rfl⟩
abbrev main_call3_c : Ref sig .tc := ⟨.hbm, 154, rfl⟩
abbrev main_call3_v0 : Ref sig .tc := ⟨.hbm, 155, rfl⟩
abbrev main_call3_v1 : Ref sig .tc := ⟨.hbm, 156, rfl⟩
abbrev main_call3_c_0 : Ref sig .tc := ⟨.hbm, 157, rfl⟩
abbrev main_call3_v2 : Ref sig .tc := ⟨.hbm, 158, rfl⟩
abbrev main_call3_v3 : Ref sig .tc := ⟨.hbm, 159, rfl⟩
abbrev main_call3_v4 : Ref sig .tc := ⟨.hbm, 160, rfl⟩
abbrev main_call3_v5 : Ref sig .tc := ⟨.hbm, 161, rfl⟩
abbrev main_call3_c_1 : Ref sig .tc := ⟨.hbm, 162, rfl⟩
abbrev main_call3_c_2 : Ref sig .tc := ⟨.hbm, 163, rfl⟩
abbrev main_call3_v6 : Ref sig .tc := ⟨.hbm, 164, rfl⟩
abbrev main_call3_v7 : Ref sig .tc := ⟨.hbm, 165, rfl⟩
abbrev main_call3_v8 : Ref sig .tc := ⟨.hbm, 166, rfl⟩
abbrev main_call3_v9 : Ref sig .tc := ⟨.hbm, 167, rfl⟩
abbrev main_call3_v10 : Ref sig .tc := ⟨.hbm, 168, rfl⟩
abbrev main_call3_v11 : Ref sig .tc := ⟨.hbm, 169, rfl⟩
abbrev main_call3_c_3 : Ref sig .tc := ⟨.hbm, 170, rfl⟩
abbrev main_call3_v12 : Ref sig .tc := ⟨.hbm, 171, rfl⟩
abbrev main_call3_v13 : Ref sig .tc := ⟨.hbm, 172, rfl⟩
abbrev main_call3_v14 : Ref sig .tc := ⟨.hbm, 173, rfl⟩
abbrev main_call3_cst : Ref sig .tc := ⟨.hbm, 174, rfl⟩
abbrev main_call3_v15 : Ref sig .tc := ⟨.hbm, 175, rfl⟩
abbrev main_v75 : Ref sig .tc := ⟨.hbm, 176, rfl⟩
abbrev main_v76 : Ref sig .tc := ⟨.hbm, 177, rfl⟩
abbrev main_v77 : Ref sig .tc := ⟨.hbm, 178, rfl⟩
abbrev main_v78 : Ref sig .tc := ⟨.hbm, 179, rfl⟩
abbrev main_v79 : Ref sig .tc := ⟨.hbm, 180, rfl⟩
abbrev main_v80 : Ref sig .tc := ⟨.hbm, 181, rfl⟩
abbrev main_v81 : Ref sig .tc := ⟨.hbm, 182, rfl⟩
abbrev main_v82 : Ref sig .tc := ⟨.hbm, 183, rfl⟩
abbrev main_v83 : Ref sig .tc := ⟨.hbm, 184, rfl⟩
abbrev main_v84 : Ref sig .tc := ⟨.hbm, 185, rfl⟩
abbrev main_v85 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_v93 : Ref sig .tc := ⟨.hbm, 194, rfl⟩
abbrev main_v94 : Ref sig .tc := ⟨.hbm, 195, rfl⟩
abbrev main_v95 : Ref sig .tc := ⟨.hbm, 196, rfl⟩
abbrev main_v96 : Ref sig .tc := ⟨.hbm, 197, rfl⟩
abbrev main_v97 : Ref sig .tc := ⟨.hbm, 198, rfl⟩
abbrev main_cst_14 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_cst_15 : Ref sig .tc := ⟨.hbm, 203, rfl⟩
abbrev main_call4_v0 : Ref sig .tc := ⟨.hbm, 204, rfl⟩
abbrev main_call4_v1 : Ref sig .tc := ⟨.hbm, 205, rfl⟩
abbrev main_call4_v2 : Ref sig .tc := ⟨.hbm, 206, rfl⟩
abbrev main_v101 : Ref sig .tc := ⟨.hbm, 207, rfl⟩
abbrev main_cst_16 : Ref sig .tc := ⟨.hbm, 208, rfl⟩
abbrev main_v102 : Ref sig .tc := ⟨.hbm, 209, rfl⟩
abbrev main_cst_17 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_cst_18 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_cst_19 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_c_20 : Ref sig .tc := ⟨.hbm, 229, rfl⟩
abbrev main_v119 : Ref sig .tc := ⟨.hbm, 230, rfl⟩
abbrev main_v120 : Ref sig .tc := ⟨.hbm, 231, rfl⟩
abbrev main_c_21 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_v125 : Ref sig .tc := ⟨.hbm, 237, rfl⟩
abbrev main_v126 : Ref sig .tc := ⟨.hbm, 238, rfl⟩
abbrev main_v127 : Ref sig .tc := ⟨.hbm, 239, rfl⟩
abbrev main_v128 : Ref sig .tc := ⟨.hbm, 240, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run with its results: every weakly fair execution terminates without a fault, the two result buffers hold what the
    last boundary of the run says, the arguments are unchanged and every counter is zero. -/
theorem run_results : θ_run defs (onTc (τ := τ) (main (F := F))) ⟨m, fun _ => 0, ρ⟩ (fun r => (∀ c : Dev nD,
      r.2.mem ((c.tc : Thread nD τ).loc main_v83) = W21 m ρ c (Proc.devRef .tc main_v83)
      ∧ r.2.mem ((c.tc : Thread nD τ).loc main_v17) = W21 m ρ c (Proc.devRef .tc main_v17)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m ρ c b)
    (hfin := fun c s' => by
      iintro ⟨⟨Hh, -⟩, HSI⟩
      unfold StableHlo.held
      imodintro
      iapply (pointsTo_read_all (Pipeline.ucRefs τ sig) (fun b => (((c : Thread nD τ)).1, b)) (W21 m ρ c) s')
      isplitl [Hh] <;> iassumption)
    (hQ := fun s h hz => ⟨(fun c =>
      ⟨h c _ (mem_uc main_v83 (by decide)), h c _ (mem_uc main_v17 (by decide)),
       (h c _ (mem_uc main_arg0 (by decide))).trans (W21_main_arg0 m ρ c),
       (h c _ (mem_uc main_arg1 (by decide))).trans (W21_main_arg1 m ρ c),
       (h c _ (mem_uc main_arg2 (by decide))).trans (W21_main_arg2 m ρ c),
       (h c _ (mem_uc main_arg3 (by decide))).trans (W21_main_arg3 m ρ c),
       (h c _ (mem_uc main_arg4 (by decide))).trans (W21_main_arg4 m ρ c),
       (h c _ (mem_uc main_arg5 (by decide))).trans (W21_main_arg5 m ρ c),
       (h c _ (mem_uc main_arg6 (by decide))).trans (W21_main_arg6 m ρ c),
       (h c _ (mem_uc main_arg7 (by decide))).trans (W21_main_arg7 m ρ c),
       (h c _ (mem_uc main_arg8 (by decide))).trans (W21_main_arg8 m ρ c)⟩), funext fun g => hz g (.inr (no_unscoped g.2))⟩)

end Cert.KernelIdeal.Own

end
-- ==== Proof.Matmuls.lean ====
module

public import proofs.«01_k».proof.Proof.Gen.KernelIdeal.Frame
public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

/-- What the TensorCore's buffers hold when a region is entered. -/
abbrev Entry := (c : Dev nD) → (b : Ref sig .tc) → Buf (Elt Ideal) ((c : Thread nD τ).loc b)

variable (V : Entry)

/-- The hidden layer before its activation: the product with the bias row added to every row. -/
def preAct (X : FVec Ideal S2048x1024 .f32) (Wt : FVec Ideal S1024x512 .f32) (B : FVec Ideal S1x512 .f32) :
    FVec Ideal Cert.ReferenceIdeal.S2048x512 .f32 :=
  addf (Host.dotGeneral Cert.ReferenceIdeal.dot_S2048x1024_S1024x512_S2048x512_1_0_0_1_n_n none X Wt)
    (broadcastInDim Cert.ReferenceIdeal.S2048x512 ![0, 1] Cert.ReferenceIdeal.Gen.bcast_S1x512_S2048x512_0_1 B)

/-- The activation `z ↦ z · (1/2 · (1 + tanh (c₁ · (z + c₂ z³))))`, element by element, in the reference's own operations. -/
def act (Z : FVec Ideal Cert.ReferenceIdeal.S2048x512 .f32) : FVec Ideal Cert.ReferenceIdeal.S2048x512 .f32 :=
  open Cert.ReferenceIdeal Cert.ReferenceIdeal.Gen in
  mulf Z (mulf (broadcastInDim S2048x512 ![] bcast_S_S2048x512 (constant S_ .f32 0x3F000000#32)) (addf (broadcastInDim S2048x512 ![] bcast_S_S2048x512 (constant S_ .f32 0x3F800000#32)) (Host.tanh (mulf (broadcastInDim S2048x512 ![] bcast_S_S2048x512 (constant S_ .f32 0x3F4C422A#32)) (addf Z (mulf (broadcastInDim S2048x512 ![] bcast_S_S2048x512 (constant S_ .f32 0x3D372713#32)) (mulf (mulf Z Z) Z)))))))

/-- The block index of each window of the hidden-layer product, at every grid point. -/
theorem idx0 : ∀ t : Fin cfg0.N, win0_0.index t = ![t.val / 2, 0] ∧ win0_1.index t = ![0, t.val % 2] ∧
    win0_2.index t = ![0, t.val % 2] ∧ win0_3.index t = ![t.val / 2, t.val % 2] ∧ t.val / 2 < 8 ∧ t.val % 2 < 2 :=
  (by decide +kernel : ∀ t : Fin grid0.N, _)

/-- The hidden layer: after its region the result array is the activation of the product plus bias. -/
theorem final0 (c : Dev nD) : (dat0 V c).arrAt 3 cfg0.N = act (preAct (V c main_v0) (V c main_v1) (V c main_v2)) := by
  refine (dat0 V c).arrAt_eq_of_covers 3 _ (by decide +kernel) fun t _ y => ?_
  blk_simp
  rw [after0_3]; frame_out
  pointwise [k0_pay1, act, preAct]
  blk_point [iblk0, idx0 t]

/-- The block index of each window of the scores' product, at every grid point. -/
theorem idx1 : ∀ t : Fin cfg1.N, win1_0.index t = ![t.val, 0] ∧ win1_1.index t = ![0, 0] ∧
    win1_2.index t = ![0, 0] ∧ win1_3.index t = ![t.val, 0] ∧ t.val < 8 :=
  (by decide +kernel : ∀ t : Fin grid1.N, _)

/-- A product row by column, with a bias row added to every row. -/
def rowsCols (H : FVec Ideal S2048x512 .f32) (Wt : FVec Ideal S512x128 .f32) (B : FVec Ideal S1x128 .f32) :
    FVec Ideal S2048x128 .f32 :=
  fun y => ((∑ k : Fin 512, (H (ix2 (y 0) k) : EReal) * Wt (ix2 k (y 1))) + B (ix2 0 (y 1)) : EReal)

/-- The padded scores: after its region the result array is, element by element, the product row by column plus the bias. -/
theorem final1 (c : Dev nD) : (dat1 V c).arrAt 3 cfg1.N =
    rowsCols (V c main_v3) (V c main_v10) (V c main_v11) := by
  refine (dat1 V c).arrAt_eq_of_covers 3 _ (by decide +kernel) fun t _ y => ?_
  blk_simp
  rw [after1_3]; frame_out
  pointwise [k1_pay1, rowsCols]
  blk_point [iblk1, idx1 t]

/-- The product of a 2048 by 1024 and a 1024 by 1024 array, in the reference's own operation. -/
def prod (X : FVec Ideal S2048x1024 .f32) (Wt : FVec Ideal S1024x1024 .f32) : FVec Ideal S2048x1024 .f32 :=
  Host.dotGeneral Cert.ReferenceIdeal.dot_S2048x1024_S1024x1024_S2048x1024_1_0_0_1_n_n none X Wt

/-- The block index of each window of the query product, at every grid point. -/
theorem idx2 : ∀ t : Fin cfg2.N, win2_0.index t = ![t.val / 2, 0] ∧ win2_1.index t = ![0, t.val % 2] ∧
    win2_2.index t = ![t.val / 2, t.val % 2] ∧ t.val / 2 < 8 ∧ t.val % 2 < 2 :=
  (by decide +kernel : ∀ t : Fin grid2.N, _)
/-- The block index of each window of the key product, at every grid point. -/
theorem idx3 : ∀ t : Fin cfg3.N, win3_0.index t = ![t.val / 2, 0] ∧ win3_1.index t = ![0, t.val % 2] ∧
    win3_2.index t = ![t.val / 2, t.val % 2] ∧ t.val / 2 < 8 ∧ t.val % 2 < 2 :=
  (by decide +kernel : ∀ t : Fin grid3.N, _)
/-- The block index of each window of the value product, at every grid point. -/
theorem idx4 : ∀ t : Fin cfg4.N, win4_0.index t = ![t.val / 2, 0] ∧ win4_1.index t = ![0, t.val % 2] ∧
    win4_2.index t = ![t.val / 2, t.val % 2] ∧ t.val / 2 < 8 ∧ t.val % 2 < 2 :=
  (by decide +kernel : ∀ t : Fin grid4.N, _)
/-- The block index of each window of the output product, at every grid point. -/
theorem idx7 : ∀ t : Fin cfg7.N, win7_0.index t = ![t.val / 2, 0] ∧ win7_1.index t = ![0, t.val % 2] ∧
    win7_2.index t = ![t.val / 2, t.val % 2] ∧ t.val / 2 < 8 ∧ t.val % 2 < 2 :=
  (by decide +kernel : ∀ t : Fin grid7.N, _)

/-- The queries: after its region the result array is the product of the entry arrays. -/
theorem final2 (c : Dev nD) : (dat2 V c).arrAt 2 cfg2.N = prod (V c main_v0) (V c main_v31) := by
  refine (dat2 V c).arrAt_eq_of_covers 2 _ (by decide +kernel) fun t _ y => ?_
  blk_simp
  rw [after2_2]; frame_out
  pointwise [k2_pay1, prod]
  blk_point [iblk2, idx2 t]

/-- The keys: after its region the result array is the product of the entry arrays. -/
theorem final3 (c : Dev nD) : (dat3 V c).arrAt 2 cfg3.N = prod (V c main_v0) (V c main_v33) := by
  refine (dat3 V c).arrAt_eq_of_covers 2 _ (by decide +kernel) fun t _ y => ?_
  blk_simp
  rw [after3_2]; frame_out
  pointwise [k3_pay1, prod]
  blk_point [iblk3, idx3 t]

/-- The values: after its region the result array is the product of the entry arrays. -/
theorem final4 (c : Dev nD) : (dat4 V c).arrAt 2 cfg4.N = prod (V c main_v0) (V c main_v35) := by
  refine (dat4 V c).arrAt_eq_of_covers 2 _ (by decide +kernel) fun t _ y => ?_
  blk_simp
  rw [after4_2]; frame_out
  pointwise [k4_pay1, prod]
  blk_point [iblk4, idx4 t]

/-- The output: after its region the result array is the product of the entry arrays. -/
theorem final7 (c : Dev nD) : (dat7 V c).arrAt 2 cfg7.N = prod (V c main_v80) (V c main_v81) := by
  refine (dat7 V c).arrAt_eq_of_covers 2 _ (by decide +kernel) fun t _ y => ?_
  blk_simp
  rw [after7_2]; frame_out
  pointwise [k7_pay1, prod]
  blk_point [iblk7, idx7 t]

end Cert.KernelIdeal.Own
-- ==== Proof.Kprep.lean ====
module

public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index of each window of the key preparation, at every grid point. -/
theorem idx5 : ∀ t : Fin cfg5.N, win5_0.index t = ![t.val, 0, 0] ∧ win5_1.index t = ![0, 0] ∧
    win5_2.index t = ![0, 0] ∧ win5_3.index t = ![t.val, 0, 0] ∧ win5_4.index t = ![t.val, 0, 0] ∧ t.val < 8 :=
  (by decide +kernel : ∀ t : Fin grid5.N, _)

/-- The second half of a row, negated, before its first half. -/
def rot (x : Fin 64 → EReal) (d : Fin 64) : EReal :=
  if h : d.val < 32 then 0 - x ⟨32 + d.val, by omega⟩ else x ⟨d.val - 32, by omega⟩

/-- A row turned by its angles: the row times the cosines plus its rotated halves times the sines. -/
def roped (K : FVec Ideal S8x5120x64 .f32) (C S : FVec Ideal S5120x64 .f32) : FVec Ideal S8x5120x64 .f32 :=
  fun y => (K y * C (ix2 (y 1) (y 2)) + rot (fun d => K (ix3 (y 0) (y 1) d)) (y 2) * S (ix2 (y 1) (y 2)) : EReal)

/-- The keys after their preparation: every row turned by its angles. -/
theorem final5_3 (c : Dev nD) : (dat5 V c).arrAt 3 cfg5.N = roped (V c main_v40) (V c main_v63) (V c main_v66) := by
  refine (dat5 V c).arrAt_eq_of_covers 3 _ (by decide +kernel) fun t _ y => ?_
  have e : ((View.whole main_v67_0).slice (win5_3.rect t)).emb y = ix3 ⟨t.val, (idx5 t).2.2.2.2.2⟩ (y 1) (y 2) := by
    blk_ext [idx5 t]
  blk_simp
  rw [after5_3]; unfold outsAt5; dsimp only; frame_out
  rw [e]
  pointwise [k5_pay3, k5_pay1, roped, rot]
  blk_point [iblk5, idx5 t]
  all_goals (exfalso; first | exact absurd ‹(y 2).val < 32› ‹¬ (y 2).val < 32› | omega)

/-- The greatest squared norm of a row, per timeline. -/
def rowMax (K : FVec Ideal S8x5120x64 .f32) : FVec Ideal S8x1x1 .f32 :=
  fun y => (Finset.univ.fold max (Ideal.ofBits .f32 0xFF800000#32) fun r : Fin 5120 => (∑ d : Fin 64, K (ix3 (y 0) r d) * K (ix3 (y 0) r d) : EReal) : EReal)

/-- The second result of the key preparation: per timeline, the greatest squared norm of a key row. -/
theorem final5_4 (c : Dev nD) : (dat5 V c).arrAt 4 cfg5.N = rowMax (V c main_v40) := by
  refine (dat5 V c).arrAt_eq_of_covers 4 _ (by decide +kernel) fun t _ y => ?_
  have e : ((View.whole main_v67_1).slice (win5_4.rect t)).emb y = ix3 ⟨t.val, (idx5 t).2.2.2.2.2⟩ 0 0 := by
    blk_ext [idx5 t]
  blk_simp
  rw [after5_4]; unfold outsAt5; dsimp only; frame_out
  rw [e]
  pointwise [k5_pay2, k5_pay1, rowMax]
  blk_point [iblk5, idx5 t]

end Cert.KernelIdeal.Own

end
-- ==== Proof.Flash.lean ====
module

public import proofs.«01_k».proof.Proof.Gen.KernelIdeal.Frame
public import Idealize.ShloMosaic.Lib.Pipeline.ValueKit
public import Idealize.ShloMosaic.Lib.Pointwise
public import Idealize.ShloMosaic.Lib.WholeRead
public import Idealize.ShloMosaic.Lib.WordCmp
public import proofs.«01_k».proof.Proof.Kprep

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The block index of each window of the attention call, and the point's two coordinates, at every grid point. -/
theorem idx6 : ∀ t : Fin cfg6.N, win6_0.index t = ![t.val / 10, 0, 0] ∧ win6_1.index t = ![t.val / 10, t.val % 10, 0] ∧
    win6_2.index t = ![t.val / 10, 0, 0] ∧ win6_3.index t = ![t.val / 10, 0, 0] ∧ win6_4.index t = ![t.val % 10, 0] ∧
    win6_5.index t = ![t.val % 10, 0] ∧ win6_6.index t = ![t.val / 10, t.val % 10, 0] ∧ t.val / 10 < 8 ∧ t.val % 10 < 10 ∧
    (grid6.coords t 0).val = t.val / 10 ∧ (grid6.coords t 1).val = t.val % 10 :=
  (by decide +kernel : ∀ t : Fin grid6.N, _)

/-- The first loop runs over the key blocks before the query block. -/
theorem trips1 : ∀ i : grid6.Coords, (k6_t1_loop i).trips = (i 1).val := by decide +kernel

/-- The second loop has no trip. -/
theorem trips2 : ∀ i : grid6.Coords, (k6_t2_loop i).trips = 0 := by decide +kernel

/-- The weight of key row `j` for query row `p` of a block, before masking. -/
def wgt (v24 : FVec Ideal S512x1 .f32) (v27 : FVec Ideal S512x64 .bf16) (B : Vec Ideal S1x5120x64 .f32) (p : Fin 512) (j : ℕ) : EReal :=
  Ideal.exp ((∑ d : Fin 64, v27 (ix2 p d) * B (ix3 0 (Fin.ofNat 5120 j) d)) - v24 (ix2 p 0))

/-- A load of 512 consecutive rows of a block, at an index. -/
theorem ld_row (B : Vec Ideal S1x5120x64 .f32) (o : ℕ) (off : Fin 3 → ℕ) (ho : off = ![0, o, 0]) (inb) (jj : Fin 512) (d : Fin 64)  :
    View.ld B (Rect.unit (s := S1x5120x64) off S1x512x64.size inb) (ix3 0 jj d) = B (ix3 0 (Fin.ofNat 5120 (o + jj.val)) d) := by
  subst ho
  have hb : o + 512 ≤ 5120 := inb 1
  have hj := jj.isLt
  show B _ = B _
  congr 1
  funext a
  apply Fin.ext
  have e : (o + jj.val) % 5120 = o + jj.val := Nat.mod_eq_of_lt (by omega)
  fin_cases a
  · rfl
  · simp [Rect.unit, ix3, Fin.ofNat, e]
  · simp [Rect.unit, ix3, Fin.ofNat]

/-- One trip's first result: the running total plus the block's weights. -/
theorem pay2_at (v24 : FVec Ideal S512x1 .f32) (v27 : FVec Ideal S512x64 .bf16) (l : FVec Ideal S512x1 .f32) (B : Vec Ideal S1x5120x64 .f32)
    (o : ℕ) (off : Fin 3 → ℕ) (ho : off = ![0, o, 0]) (inb) (p : Fin 512) :
    k6_pay2 v24 v27 l (View.ld B (Rect.unit (s := S1x5120x64) off S1x512x64.size inb)) (ix2 p 0)
      = (l (ix2 p 0) + ∑ jj : Fin 512, wgt v24 v27 B p (o + jj.val) : EReal) := by
  simp only [wgt, ← ld_row B o off ho inb]
  generalize View.ld B (Rect.unit (s := S1x5120x64) off S1x512x64.size inb) = L
  pointwise [k6_pay2, k6_pay1]

/-- One trip's second result: the running weighted sum plus the block's weighted values. -/
theorem pay3_at (v24 : FVec Ideal S512x1 .f32) (v27 : FVec Ideal S512x64 .bf16) (l : FVec Ideal S512x64 .f32) (B B' : Vec Ideal S1x5120x64 .f32)
    (o : ℕ) (off : Fin 3 → ℕ) (ho : off = ![0, o, 0]) (inb) (p : Fin 512) (d : Fin 64) :
    k6_pay3 v24 v27 l (View.ld B (Rect.unit (s := S1x5120x64) off S1x512x64.size inb)) (View.ld B' (Rect.unit (s := S1x5120x64) off S1x512x64.size inb)) (ix2 p d)
      = (l (ix2 p d) + ∑ jj : Fin 512, wgt v24 v27 B p (o + jj.val) * B' (ix3 0 (Fin.ofNat 5120 (o + jj.val)) d) : EReal) := by
  simp only [wgt, ← ld_row B o off ho inb, ← ld_row B' o off ho inb]
  generalize View.ld B (Rect.unit (s := S1x5120x64) off S1x512x64.size inb) = L
  generalize View.ld B' (Rect.unit (s := S1x5120x64) off S1x512x64.size inb) = L'
  pointwise [k6_pay3, k6_pay1]

/-- A word of a block's first row plus an offset. -/
theorem row_word (a x : ℕ) : IntOp.addi (Scalar.muli (BitVec.ofNat 32 a) 512#32) (BitVec.ofNat 32 x) = BitVec.ofNat 32 (512 * a + x) := by
  show BitVec.ofNat 32 a * BitVec.ofNat 32 512 + BitVec.ofNat 32 x = _
  rw [← BitVec.ofNat_mul, ← BitVec.ofNat_add, Nat.mul_comm]

/-- The diagonal block's result at an index: the two running sums completed by the kept columns, and their quotient. -/
theorem pay7_at (i : grid6.Coords) (v24 : FVec Ideal S512x1 .f32) (v27 : FVec Ideal S512x64 .bf16) (l : FVec Ideal S512x1 .f32) (acc : FVec Ideal S512x64 .f32) (B B' : Vec Ideal S1x5120x64 .f32)
    (off : Fin 3 → ℕ) (ho : off = ![0, 512 * (i 1).val, 0]) (inb) (p : Fin 512) (d : Fin 64) :
    k6_pay7 (BitVec.ofNat 32 (i 1).val) v24 v27 (k6_pay11 i) l acc (View.ld B (Rect.unit (s := S1x5120x64) off S1x512x64.size inb)) (View.ld B' (Rect.unit (s := S1x5120x64) off S1x512x64.size inb)) (ix3 0 p d)
     = Ideal.div (acc (ix2 p d) + ∑ jj : Fin 512, (if jj.val ≤ p.val then wgt v24 v27 B p (512 * (i 1).val + jj.val) else 0) * B' (ix3 0 (Fin.ofNat 5120 (512 * (i 1).val + jj.val)) d) : EReal)
        (l (ix2 p 0) + ∑ jj : Fin 512, (if jj.val ≤ p.val then wgt v24 v27 B p (512 * (i 1).val + jj.val) else 0) : EReal) := by
  simp only [wgt, ← ld_row B _ off ho inb, ← ld_row B' _ off ho inb]
  generalize View.ld B (Rect.unit (s := S1x5120x64) off S1x512x64.size inb) = L
  generalize View.ld B' (Rect.unit (s := S1x5120x64) off S1x512x64.size inb) = L'
  have hi : (i 1).val < 10 := (i 1).isLt
  have hp := p.isLt
  have key : ∀ (x : Fin 512) (s : EReal), Ideal.exp (Scalar.select (IntOp.cmpi CmpIPredicate.sle (IntOp.addi (Scalar.muli (BitVec.ofNat 32 (i 1).val) 512#32) (BitVec.ofNat 32 x.val))
                    (k6_pay11 i (ix2 p x))) s (Ideal.ofBits FTy.f32 4286578688#32) - v24 (ix2 p 0)) = if x.val ≤ p.val then Ideal.exp (s - v24 (ix2 p 0)) else 0 := by
    intro x s
    have hx := x.isLt
    have e11 : k6_pay11 i (ix2 p x) = BitVec.ofNat 32 (512 * (i 1).val + p.val) := by
      pointwise [k6_pay11]
      exact row_word _ _
    rw [e11, row_word, WordCmp.cmpi_sle_ofNat (by omega) (by omega), WordCmp.select_ofBool]
    by_cases h : x.val ≤ p.val
    · rw [if_pos h, if_pos (by simpa using h)]
    · rw [if_neg h, if_neg (by simpa using h), show Ideal.ofBits FTy.f32 4286578688#32 = ⊥ from by simp [Ideal.ofBits, Ideal.ieee], EReal.bot_sub]
      rfl
  pointwise [k6_pay7]
  simp only [key]

/-- Sums over whole blocks of 512 make one sum over a range. -/
theorem sum_blocks (f : ℕ → EReal) (n : ℕ) : ∑ kb ∈ Finset.range n, ∑ jj : Fin 512, f (512 * kb + jj.val) = ∑ j ∈ Finset.range (512 * n), f j := by
  induction n with
  | zero => simp
  | succ n ih =>
    rw [Finset.sum_range_succ, ih, Nat.mul_succ, Finset.sum_range_add, Fin.sum_univ_eq_sum_range (fun j => f (512 * n + j)) 512]

/-- Whole blocks before the diagonal one and the kept columns of the diagonal one make the sum over all kept columns. -/
theorem sum_causal (f : ℕ → EReal) (n p : ℕ) (hn : n < 10) (hp : p < 512) :
    (∑ kb ∈ Finset.range n, ∑ jj : Fin 512, f (512 * kb + jj.val)) + ∑ jj : Fin 512, (if jj.val ≤ p then f (512 * n + jj.val) else 0)
      = ∑ j : Fin 5120, if j.val ≤ 512 * n + p then f j.val else 0 := by
  rw [sum_blocks, Fin.sum_univ_eq_sum_range (fun j => if j ≤ p then f (512 * n + j) else 0) 512,
    Fin.sum_univ_eq_sum_range (fun j => if j ≤ 512 * n + p then f j else 0) 5120,
    show 5120 = 512 * n + (512 + (5120 - 512 * n - 512)) by omega, Finset.sum_range_add, Finset.sum_range_add]
  have e1 : ∑ j ∈ Finset.range (512 * n), f j = ∑ j ∈ Finset.range (512 * n), if j ≤ 512 * n + p then f j else 0 :=
    Finset.sum_congr rfl fun j hj => by rw [if_pos (by have := Finset.mem_range.1 hj; omega)]
  have e2 : ∑ j ∈ Finset.range 512, (if j ≤ p then f (512 * n + j) else 0) = ∑ j ∈ Finset.range 512, if 512 * n + j ≤ 512 * n + p then f (512 * n + j) else 0 :=
    Finset.sum_congr rfl fun j _ => by simp only [Nat.add_le_add_iff_left]
  have e3 : ∑ j ∈ Finset.range (5120 - 512 * n - 512), (if 512 * n + (512 + j) ≤ 512 * n + p then f (512 * n + (512 + j)) else 0) = 0 :=
    Finset.sum_eq_zero fun j _ => by rw [if_neg (by omega)]
  rw [e1, e2, e3, add_zero]

/-- The two running sums after `k` trips of the first loop. -/
theorem st1_at (𝒱 : Variants) (c : Dev nD) (bd : Option 𝒱.V) (i : grid6.Coords) (arg2 : Memref sig .tc .smem S1x1x1 .f32) (harg2 : arg2.IsWhole) (arg3 : Memref sig .tc .vmem S1x512x64 .f32) (harg3 : arg3.IsWhole) (arg4 : Memref sig .tc .vmem S1x5120x64 .f32) (harg4 : arg4.IsWhole) (arg5 : Memref sig .tc .vmem S1x5120x64 .f32) (harg5 : arg5.IsWhole) (arg6 : Memref sig .tc .vmem S512x64 .f32) (harg6 : arg6.IsWhole) (arg7 : Memref sig .tc .vmem S512x64 .f32) (harg7 : arg7.IsWhole) (arg8 : Memref sig .tc .vmem S1x512x64 .f32) (harg8 : arg8.IsWhole) (v24 : FVec Ideal S512x1 .f32) (v27 : FVec Ideal S512x64 .bf16) (B B' : Vec Ideal S1x5120x64 .f32) (p : Fin 512) (d : Fin 64) :
    ∀ k : ℕ, k ≤ (k6_t1_loop i).trips →
      (st_k6_t1 𝒱 c bd i arg2 harg2 arg3 harg3 arg4 harg4 arg5 harg5 arg6 harg6 arg7 harg7 arg8 harg8 v24 v27 (harg4.unread B) (harg5.unread B') (k6_pay12, k6_pay13) k).1 (ix2 p 0)
          = (∑ kb ∈ Finset.range k, ∑ jj : Fin 512, wgt v24 v27 B p (512 * kb + jj.val) : EReal) ∧
      (st_k6_t1 𝒱 c bd i arg2 harg2 arg3 harg3 arg4 harg4 arg5 harg5 arg6 harg6 arg7 harg7 arg8 harg8 v24 v27 (harg4.unread B) (harg5.unread B') (k6_pay12, k6_pay13) k).2 (ix2 p d)
          = (∑ kb ∈ Finset.range k, ∑ jj : Fin 512, wgt v24 v27 B p (512 * kb + jj.val) * B' (ix3 0 (Fin.ofNat 5120 (512 * kb + jj.val)) d) : EReal) := by
  intro k
  induction k with
  | zero =>
    intro _
    rw [st_k6_t1_zero]
    constructor
    · simp only [Finset.range_zero, Finset.sum_empty]
      pointwise [k6_pay12]
    · simp only [Finset.range_zero, Finset.sum_empty]
      pointwise [k6_pay13]
  | succ k ih =>
    intro hk
    obtain ⟨i1, i2⟩ := ih (Nat.le_of_succ_le hk)
    have hs := st_k6_t1_succ 𝒱 c bd i arg2 harg2 arg3 harg3 arg4 harg4 arg5 harg5 arg6 harg6 arg7 harg7 arg8 harg8 v24 v27 (harg4.unread B) (harg5.unread B') (k6_pay12, k6_pay13) ⟨k, hk⟩
    dsimp only at hs
    rw [hs]
    generalize st_k6_t1 𝒱 c bd i arg2 harg2 arg3 harg3 arg4 harg4 arg5 harg5 arg6 harg6 arg7 harg7 arg8 harg8 v24 v27 (harg4.unread B) (harg5.unread B') (k6_pay12, k6_pay13) k = s at i1 i2
    dsimp only [tripR_k6_t1]
    unfold trip_k6_t1
    dsimp only
    have r4 : View.readAt (Elt Ideal) arg4.view (Rect.unit (s := S1x5120x64) (k6_off1 i ⟨k, hk⟩) S1x512x64.size (k6_off1_inb i ⟨k, hk⟩)).toLoadRect (harg4.unread B) = View.ld B (Rect.unit (s := S1x5120x64) (k6_off1 i ⟨k, hk⟩) S1x512x64.size (k6_off1_inb i ⟨k, hk⟩)) :=
      funext fun x => harg4.readAt_unread B _ x
    have r5 : View.readAt (Elt Ideal) arg5.view (Rect.unit (s := S1x5120x64) (k6_off1 i ⟨k, hk⟩) S1x512x64.size (k6_off1_inb i ⟨k, hk⟩)).toLoadRect (harg5.unread B') = View.ld B' (Rect.unit (s := S1x5120x64) (k6_off1 i ⟨k, hk⟩) S1x512x64.size (k6_off1_inb i ⟨k, hk⟩)) :=
      funext fun x => harg5.readAt_unread B' _ x
    refine ⟨?_, ?_⟩
    · refine (congrFun (congrArg (k6_pay2 v24 v27 s.1) r4) _).trans ?_
      rw [pay2_at v24 v27 s.1 B (512 * k) _ (k6_off1_eq i ⟨k, hk⟩), Finset.sum_range_succ, i1]
    · refine (congrFun (congrArg₂ (k6_pay3 v24 v27 s.2) r4 r5) _).trans ?_
      rw [pay3_at v24 v27 s.2 B B' (512 * k) _ (k6_off1_eq i ⟨k, hk⟩), Finset.sum_range_succ, i2]

/-- The scale of the scores. -/
abbrev c8 : EReal := Ideal.ofBits .f32 0x3E000000#32

/-- The shift of row `r`: a bound of its scores by norms. -/
def shiftOf (N : FVec Ideal S8x1x1 .f32) (Q : FVec Ideal S8x5120x64 .f32) (b : Fin 8) (r : Fin 5120) : EReal :=
  Ideal.sqrt ((∑ d : Fin 64, Q (ix3 b r d) * Q (ix3 b r d)) * N (ix3 b 0 0)) * c8 + Ideal.ofBits .f32 0x1E3CE508#32

/-- The score of key row `j` for query row `r`. -/
def scoreOf (Q K : FVec Ideal S8x5120x64 .f32) (b : Fin 8) (r j : Fin 5120) : EReal :=
  ∑ d : Fin 64, (Q (ix3 b r d) * c8) * K (ix3 b j d)

/-- Causal attention with every row's scores shifted by `shiftOf`. -/
def shifted (N : FVec Ideal S8x1x1 .f32) (Q K W : FVec Ideal S8x5120x64 .f32) : FVec Ideal S8x5120x64 .f32 := fun y =>
  Ideal.div
    (∑ j : Fin 5120, Ideal.exp ((if j.val ≤ (y 1).val then scoreOf Q K (y 0) (y 1) j else ⊥) - shiftOf N Q (y 0) (y 1)) * W (ix3 (y 0) j (y 2)) : EReal)
    (∑ j : Fin 5120, Ideal.exp ((if j.val ≤ (y 1).val then scoreOf Q K (y 0) (y 1) j else ⊥) - shiftOf N Q (y 0) (y 1)) : EReal)

/-- A masked exponential is the exponential where kept and zero elsewhere. -/
theorem exp_masked (P : Prop) [Decidable P] (s m : EReal) : Ideal.exp ((if P then s else ⊥) - m) = if P then Ideal.exp (s - m) else 0 := by
  by_cases h : P
  · rw [if_pos h, if_pos h]
  · rw [if_neg h, if_neg h, EReal.bot_sub]; rfl

set_option maxHeartbeats 4000000 in
/-- The attention call's result array: causal attention of the turned queries. -/
theorem final6 (c : Dev nD) : (dat6 V c).arrAt 6 cfg6.N
    = shifted (V c main_v67_1) (roped (V c main_v38) (V c main_v63) (V c main_v66)) (V c main_v67_0) (V c main_v42) := by
  refine (dat6 V c).arrAt_eq_of_covers 6 _ (by decide +kernel) fun t _ y => ?_
  obtain ⟨p, d, rfl⟩ : ∃ (p : Fin 512) (d : Fin 64), y = ix3 0 p d := ⟨y 1, y 2, by blk_ext⟩
  have hidx := idx6 t
  obtain ⟨-, -, -, -, -, -, -, hb, hq, h0, h1⟩ := idx6 t
  have hp := p.isLt
  have hr : 512 * (t.val % 10) + p.val < 5120 := by omega
  have e : ((View.whole main_v68).slice (win6_6.rect t)).emb (ix3 0 p d) = ix3 ⟨t.val / 10, hb⟩ ⟨512 * (t.val % 10) + p.val, hr⟩ d := by
    blk_ext [idx6 t]
  have r1 : ∀ d, iblk6 V c 1 t (ix3 0 p d) = V c main_v38 (ix3 ⟨t.val / 10, hb⟩ ⟨512 * (t.val % 10) + p.val, hr⟩ d) := fun d => by blk_ext [iblk6, idx6 t]
  have r4 : ∀ d, iblk6 V c 4 t (ix2 p d) = V c main_v63 (ix2 ⟨512 * (t.val % 10) + p.val, hr⟩ d) := fun d => by blk_ext [iblk6, idx6 t]
  have r5 : ∀ d, iblk6 V c 5 t (ix2 p d) = V c main_v66 (ix2 ⟨512 * (t.val % 10) + p.val, hr⟩ d) := fun d => by blk_ext [iblk6, idx6 t]
  have r2 : ∀ j d, iblk6 V c 2 t (ix3 0 j d) = V c main_v67_0 (ix3 ⟨t.val / 10, hb⟩ j d) := fun j d => by blk_ext [iblk6, idx6 t]
  have r3 : ∀ j d, iblk6 V c 3 t (ix3 0 j d) = V c main_v42 (ix3 ⟨t.val / 10, hb⟩ j d) := fun j d => by blk_ext [iblk6, idx6 t]
  have r0 : iblk6 V c 0 t (ix3 0 0 0) = V c main_v67_1 (ix3 ⟨t.val / 10, hb⟩ 0 0) := by blk_ext [iblk6, idx6 t]
  have p8 : ∀ d, k6_pay8 (iblk6 V c 1 t) (iblk6 V c 4 t) (iblk6 V c 5 t) (ix2 p d)
      = roped (V c main_v38) (V c main_v63) (V c main_v66) (ix3 ⟨t.val / 10, hb⟩ ⟨512 * (t.val % 10) + p.val, hr⟩ d) := by
    intro d
    pointwise [k6_pay8, roped, rot]
    simp only [r1, r4, r5]
  have p10 : ∀ d, k6_pay10 (iblk6 V c 1 t) (iblk6 V c 4 t) (iblk6 V c 5 t) (ix2 p d)
      = (roped (V c main_v38) (V c main_v63) (V c main_v66) (ix3 ⟨t.val / 10, hb⟩ ⟨512 * (t.val % 10) + p.val, hr⟩ d) * c8 : EReal) := by
    intro d
    rw [← p8]
    pointwise [k6_pay10]
  have p9 : ∀ n : EReal, n = V c main_v67_1 (ix3 ⟨t.val / 10, hb⟩ 0 0) → k6_pay9 (iblk6 V c 1 t) (iblk6 V c 4 t) (iblk6 V c 5 t) n (ix2 p 0)
      = shiftOf (V c main_v67_1) (roped (V c main_v38) (V c main_v63) (V c main_v66)) ⟨t.val / 10, hb⟩ ⟨512 * (t.val % 10) + p.val, hr⟩ := by
    intro n hn
    unfold shiftOf
    simp only [← p8, ← hn]
    pointwise [k6_pay9]
  blk_simp
  rw [after6_6]; unfold outsAt6; frame_out
  rw [e]
  have t2 := trips2 (grid6.coords t)
  have t1 := trips1 (grid6.coords t)
  have t1' := trips1 (grid6.coords t)
  dsimp only [k6_t2_loop, k6_t1_loop, Scf.Loop.trips] at t1 t2
  rw [t2, st_k6_t2_zero, t1]
  generalize hn : (View.ld (iblk6 V c 0 t) (Rect.unit ![0, 0, 0] ![1, 1, 1] inb_S1x1x1_S1x1x1_0_0_0) (Shape.Idx.first _) : EReal) = n
  have hn' : n = V c main_v67_1 (ix3 ⟨t.val / 10, hb⟩ 0 0) := by
    rw [← hn, ← r0]
    refine congrArg (iblk6 V c 0 t) ?_
    blk_ext
  rw [pay7_at (grid6.coords t) _ _ _ _ _ _ _ (k6_off3_eq _)]
  have S1 := st1_at Variants.none c none (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t)
    (k6_pay9 (iblk6 V c 1 t) (iblk6 V c 4 t) (iblk6 V c 5 t) n) (k6_pay10 (iblk6 V c 1 t) (iblk6 V c 4 t) (iblk6 V c 5 t)) (iblk6 V c 2 t) (iblk6 V c 3 t) p d _ (le_of_eq t1'.symm)
  rw [S1.1, S1.2]
  simp only [ite_mul, zero_mul]
  rw [sum_causal (fun j => wgt _ _ _ p j) _ _ (by omega) hp, sum_causal (fun j => wgt _ _ _ p j * iblk6 V c 3 t (ix3 0 (Fin.ofNat 5120 j) d)) _ _ (by omega) hp]
  unfold shifted
  simp only [exp_masked, ite_mul, zero_mul, wgt, scoreOf, p10, p9 n hn', r2, r3, h1, Fin.ofNat_eq_cast, Fin.cast_val_eq_self]
  rfl

end Cert.KernelIdeal.Own

end
-- ==== Proof.Reads.lean ====
module

public import proofs.«01_k».proof.Proof.Matmuls
public import proofs.«01_k».proof.Proof.Flash

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

/-- The chosen rows' numbers as a column, a negative one counted from the end. -/
def col (I : IVec S2560 32) : IVec S2560x1 32 :=
  broadcastInDim S2560x1 ![0] bcast_S2560_S2560x1_0 (select (cmpi .slt I (broadcastInDim S2560 ![] bcast_S_S2560 (constantI S_ 32 0#32)))
    (addi I (broadcastInDim S2560 ![] bcast_S_S2560 (constantI S_ 32 2048#32))) I)

/-- The chosen rows of a matrix, a row whose number is out of range filled with the not-a-number pattern. -/
def takeRows (X : FVec Ideal S2048x1024 .f32) (I : IVec S2560 32) : FVec Ideal S2560x1024 .f32 :=
  select (broadcastInDim S2560x1024 ![0] bcast_S2560_S2560x1024_0 (Host.reduce IntOp.andi
      (andi (cmpi .sge (col I) (broadcastInDim S2560x1 ![] bcast_S_S2560x1 (constantI S_ 32 0#32)))
        (cmpi .sle (col I) (broadcastInDim S2560x1 ![0, 1] bcast_S1x1_S2560x1_0_1 (broadcastInDim S1x1 ![1] bcast_S1_S1x1_1 (constantI S1 32 2047#32)))))
      (constantI S_ 1 1#1) reducesTo_S2560x1_S2560_d1 h_S_))
    (Host.gather gather_S2048x1024_S2560x1_S2560x1024_1_0_n_n_0_1_11024 X (col I))
    (broadcastInDim S2560x1024 ![] bcast_S_S2560x1024 (constant S_ .f32 0x7FC00000#32))

/-- Eight rows written at the top of 128 rows of zeros, turned round. -/
def padT (A : FVec Ideal S8x512 .f32) : FVec Ideal S512x128 .f32 :=
  transpose S512x128 [1, 0] (Host.scatter scatter_S128x512_S1_S8x512_01_n_0_0 (fun _ b => b)
    (broadcastInDim S128x512 ![] bcast_S_S128x512 (constant S_ .f32 0x00000000#32)) (broadcastInDim S1 ![] bcast_S_S1 (constantI S_ 32 0#32)) A)
    transposes_S128x512_S512x128_1_0

/-- Eight numbers written at the front of 128 zeros, as a row. -/
def padRow (b : FVec Ideal S8 .f32) : FVec Ideal S1x128 .f32 :=
  shapeCast _ (Host.scatter scatter_S128_S1_S8_0_n_0_0 (fun _ b => b)
    (broadcastInDim S128 ![] bcast_S_S128 (constant S_ .f32 0x00000000#32)) (broadcastInDim S1 ![] bcast_S_S1 (constantI S_ 32 0#32)) b)
    shapeCasts_S128_S1x128

/-- Minus the mean over the rows of each row's greatest score. -/
def auxOf (S : FVec Ideal S2048x8 .f32) : FVec Ideal S_ .f32 :=
  Host.negf (Host.divf (Host.reduceAdd (Host.reduce FloatOps.maximumf S (constant S_ .f32 0xFF800000#32) reducesTo_S2048x8_S2048_d1 h_S_)
    (constant S_ .f32 0x00000000#32) reducesTo_S2048_S_d0 h_S_) (constant S_ .f32 0x45000000#32))

/-- The greatest scores of each column, with their rows. -/
def topOf (S : FVec Ideal S2048x8 .f32) : FVec Ideal S8x320 .f32 × IVec S8x320 32 :=
  Host.topK S8x320 1 (FloatOps.cmpfTotal .gt) (transpose S8x2048 [1, 0] S transposes_S2048x8_S8x2048_1_0) sliceFits_S8x2048_S8x320

/-- The exponentials of the scores below their greatest one. -/
def expOf (T : FVec Ideal S8x320 .f32) : FVec Ideal S8x320 .f32 :=
  Host.exp (subf T (broadcastInDim S8x320 ![0, 1] bcast_S8x1_S8x320_0_1 (broadcastInDim S8x1 ![0] bcast_S8_S8x1_0
    (maximumf (broadcastInDim S8 ![] bcast_S_S8 (constant S_ .f32 0xFF800000#32)) (Host.reduce FloatOps.maximumf T (constant S_ .f32 0xFF800000#32) reducesTo_S8x320_S8_d1 h_S_)))))

/-- The weights of the chosen rows. -/
def weightsOf (T : FVec Ideal S8x320 .f32) : FVec Ideal S8x320 .f32 :=
  Host.divf (expOf T) (broadcastInDim S8x320 ![0, 1] bcast_S8x1_S8x320_0_1 (broadcastInDim S8x1 ![0] bcast_S8_S8x1_0
    (Host.reduceAdd (expOf T) (constant S_ .f32 0x00000000#32) reducesTo_S8x320_S8_d1 h_S_)))

/-- The angle of each position and each of the 32 frequencies. -/
def half : FVec Ideal S320x32 .f32 :=
  mulf (broadcastInDim S320x32 ![0, 1] bcast_S320x1_S320x32_0_1 (broadcastInDim S320x1 ![0] bcast_S320_S320x1_0 (sitofp .f32 (iotaInDim S320 32 0)))) (broadcastInDim S320x32 ![0, 1] bcast_S1x32_S320x32_0_1 (broadcastInDim S1x32 ![1] bcast_S32_S1x32_1 (Host.divf (broadcastInDim S32 ![] bcast_S_S32 (constant S_ .f32 0x3F800000#32)) (Host.powf (broadcastInDim S32 ![] bcast_S_S32 (constant S_ .f32 0x461C4000#32)) (Host.divf (addf (broadcastInDim S32 ![] bcast_S_S32 (constant S_ .f32 0x00000000#32)) (mulf (broadcastInDim S32 ![] bcast_S_S32 (constant S_ .f32 0x40000000#32)) (sitofp .f32 (iotaInDim S32 32 0)))) (broadcastInDim S32 ![] bcast_S_S32 (constant S_ .f32 0x42800000#32)))))))

/-- The angle of each position and frequency, the frequencies twice. -/
def angles : FVec Ideal S320x64 .f32 :=
  concatenate S320x64 1 [⟨S320x32, half⟩, ⟨S320x32, half⟩] concatenates_S320x32_S320x32_S320x64_d1

/-- A table with one row a position, each row repeated for the sixteen heads. -/
def perHead (T : FVec Ideal S320x64 .f32) : FVec Ideal S5120x64 .f32 :=
  shapeCast _ (broadcastInDim S320x16x64 ![0, 2] bcast_S320x64_S320x16x64_0_2 T) shapeCasts_S320x16x64_S5120x64

/-- The weighted rows added to the rows they were chosen from. -/
def addBack (O : FVec Ideal S8x5120x64 .f32) (w : FVec Ideal S8x320 .f32) (I : IVec S2560 32) : FVec Ideal S2048x1024 .f32 :=
  Host.scatterAdd scatter_S2048x1024_S2560x1_S2560x1024_1_0_0_1 (broadcastInDim S2048x1024 ![] bcast_S_S2048x1024 (constant S_ .f32 0x00000000#32)) (col I)
    (mulf (shapeCast _ O shapeCasts_S8x5120x64_S2560x1024) (broadcastInDim S2560x1024 ![0, 1] bcast_S2560x1_S2560x1024_0_1 (shapeCast _ w shapeCasts_S8x320_S2560x1)))

variable (V : Valuation τ sig (Elt Ideal))

/-- What the host stretch leaves in this buffer. -/
theorem read_v0 : StableHlo.after hostOps0 V (Proc.devRef .tc main_v0) = shapeCast _ (V (Proc.devRef .tc main_arg0)) shapeCasts_S1x2048x1024_S2048x1024 := by
  after_results_simp
  try rfl

/-- What the host stretch leaves in this buffer. -/
theorem read_v1 : StableHlo.after hostOps0 V (Proc.devRef .tc main_v1) = transpose S1024x512 [1, 0] (V (Proc.devRef .tc main_arg5)) transposes_S512x1024_S1024x512_1_0 := by
  after_results_simp
  try rfl

/-- What the host stretch leaves in this buffer. -/
theorem read_v2 : StableHlo.after hostOps0 V (Proc.devRef .tc main_v2) = shapeCast _ (V (Proc.devRef .tc main_arg6)) shapeCasts_S512_S1x512 := by
  after_results_simp
  try rfl

/-- What the host stretch leaves in this buffer. -/
theorem read_v10 : StableHlo.after hostOps1 V (Proc.devRef .tc main_v10) = padT (V (Proc.devRef .tc main_arg7)) := by
  after_results_simp
  try rfl

/-- What the host stretch leaves in this buffer. -/
theorem read_v11 : StableHlo.after hostOps1 V (Proc.devRef .tc main_v11) = padRow (V (Proc.devRef .tc main_arg8)) := by
  after_results_simp
  try rfl

/-- What the host stretch leaves in this buffer. -/
theorem read_v17 : StableHlo.after hostOps2 V (Proc.devRef .tc main_v17) = auxOf (extractStridedSlice S2048x8 ![0, 0] (V (Proc.devRef .tc main_v12)) slices_S2048x128_S2048x8_0_0) := by
  after_results_simp
  try rfl

/-- What the host stretch leaves in this buffer. -/
theorem read_v29 : StableHlo.after hostOps2 V (Proc.devRef .tc main_v29) = weightsOf (topOf (extractStridedSlice S2048x8 ![0, 0] (V (Proc.devRef .tc main_v12)) slices_S2048x128_S2048x8_0_0)).1 := by
  after_results_simp
  try rfl

/-- What the host stretch leaves in this buffer. -/
theorem read_v30 : StableHlo.after hostOps2 V (Proc.devRef .tc main_v30) = shapeCast _ (topOf (extractStridedSlice S2048x8 ![0, 0] (V (Proc.devRef .tc main_v12)) slices_S2048x128_S2048x8_0_0)).2 shapeCasts_S8x320_S2560 := by
  after_results_simp
  try rfl

/-- What the host stretch leaves in this buffer. -/
theorem read_v31 : StableHlo.after hostOps2 V (Proc.devRef .tc main_v31) = transpose S1024x1024 [1, 0] (V (Proc.devRef .tc main_arg1)) transposes_S1024x1024_S1024x1024_1_0 := by
  after_results_simp
  try rfl

/-- What the host stretch leaves in this buffer. -/
theorem read_v33 : StableHlo.after hostOps3 V (Proc.devRef .tc main_v33) = transpose S1024x1024 [1, 0] (V (Proc.devRef .tc main_arg2)) transposes_S1024x1024_S1024x1024_1_0 := by
  after_results_simp
  try rfl

/-- What the host stretch leaves in this buffer. -/
theorem read_v35 : StableHlo.after hostOps4 V (Proc.devRef .tc main_v35) = transpose S1024x1024 [1, 0] (V (Proc.devRef .tc main_arg3)) transposes_S1024x1024_S1024x1024_1_0 := by
  after_results_simp
  try rfl

/-- What the host stretch leaves in this buffer. -/
theorem read_v37 : StableHlo.after hostOps5 V (Proc.devRef .tc main_v37) = takeRows (V (Proc.devRef .tc main_v32)) (V (Proc.devRef .tc main_v30)) := by
  after_results_simp
  try rfl

/-- What the host stretch leaves in this buffer. -/
theorem read_v39 : StableHlo.after hostOps5_2 V (Proc.devRef .tc main_v39) = takeRows (V (Proc.devRef .tc main_v34)) (V (Proc.devRef .tc main_v30)) := by
  after_results_simp
  try rfl

/-- What the host stretch leaves in this buffer. -/
theorem read_v41 : StableHlo.after hostOps5_4 V (Proc.devRef .tc main_v41) = takeRows (V (Proc.devRef .tc main_v36)) (V (Proc.devRef .tc main_v30)) := by
  after_results_simp
  try rfl

/-- What the host stretch leaves in this buffer. -/
theorem read_v38 : StableHlo.after hostOps5_1 V (Proc.devRef .tc main_v38) = shapeCast _ (V (Proc.devRef .tc main_v37)) shapeCasts_S2560x1024_S8x5120x64 := by
  after_results_simp
  try rfl

/-- What the host stretch leaves in this buffer. -/
theorem read_v40 : StableHlo.after hostOps5_3 V (Proc.devRef .tc main_v40) = shapeCast _ (V (Proc.devRef .tc main_v39)) shapeCasts_S2560x1024_S8x5120x64 := by
  after_results_simp
  try rfl

/-- What the host stretch leaves in this buffer. -/
theorem read_v42 : StableHlo.after hostOps5_5 V (Proc.devRef .tc main_v42) = shapeCast _ (V (Proc.devRef .tc main_v41)) shapeCasts_S2560x1024_S8x5120x64 := by
  after_results_simp
  try rfl

/-- What the host stretch leaves in this buffer. -/
theorem read_v63 : StableHlo.after hostOps5_5 V (Proc.devRef .tc main_v63) = perHead (Host.cos angles) := by
  after_results_simp
  try rfl

/-- What the host stretch leaves in this buffer. -/
theorem read_v66 : StableHlo.after hostOps5_5 V (Proc.devRef .tc main_v66) = perHead (Host.sin angles) := by
  after_results_simp
  try rfl

/-- What the host stretch leaves in this buffer. -/
theorem read_v80 : StableHlo.after hostOps7 V (Proc.devRef .tc main_v80) = addBack (V (Proc.devRef .tc main_v68)) (V (Proc.devRef .tc main_v29)) (V (Proc.devRef .tc main_v30)) := by
  after_results_simp
  try rfl

/-- What the host stretch leaves in this buffer. -/
theorem read_v81 : StableHlo.after hostOps7 V (Proc.devRef .tc main_v81) = transpose S1024x1024 [1, 0] (V (Proc.devRef .tc main_arg4)) transposes_S1024x1024_S1024x1024_1_0 := by
  after_results_simp
  try rfl

/-- What the host stretch leaves in this buffer. -/
theorem read_v83 : StableHlo.after hostOps8 V (Proc.devRef .tc main_v83) = shapeCast _ (V (Proc.devRef .tc main_v82)) shapeCasts_S2048x1024_S1x2048x1024 := by
  after_results_simp
  try rfl

end Cert.KernelIdeal.Own
-- ==== Proof.Chain.lean ====
module

public import proofs.«01_k».proof.Proof.Reads

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen

/-- The activations as a matrix. -/
def mat (x : FVec Ideal S1x2048x1024 .f32) : FVec Ideal S2048x1024 .f32 := shapeCast _ x shapeCasts_S1x2048x1024_S2048x1024

/-- A square weight turned round. -/
def flip (a : FVec Ideal S1024x1024 .f32) : FVec Ideal S1024x1024 .f32 := transpose S1024x1024 [1, 0] a transposes_S1024x1024_S1024x1024_1_0

/-- The router's hidden layer. -/
def hid (x : FVec Ideal S1x2048x1024 .f32) (a5 : FVec Ideal S512x1024 .f32) (a6 : FVec Ideal S512 .f32) :=
  act (preAct (mat x) (transpose S1024x512 [1, 0] a5 transposes_S512x1024_S1024x512_1_0) (shapeCast _ a6 shapeCasts_S512_S1x512))

/-- The router's scores, the padding cut off. -/
def scores (x : FVec Ideal S1x2048x1024 .f32) (a5 : FVec Ideal S512x1024 .f32) (a6 : FVec Ideal S512 .f32) (a7 : FVec Ideal S8x512 .f32)
    (a8 : FVec Ideal S8 .f32) : FVec Ideal S2048x8 .f32 :=
  extractStridedSlice S2048x8 ![0, 0] (rowsCols (hid x a5 a6) (padT a7) (padRow a8)) slices_S2048x128_S2048x8_0_0

/-- The chosen rows' numbers, all timelines in one line. -/
def flatIdx (S : FVec Ideal S2048x8 .f32) : IVec S2560 32 := shapeCast _ (topOf S).2 shapeCasts_S8x320_S2560

/-- The chosen rows of a projection, laid out by timeline, row and head. -/
def heads (x : FVec Ideal S1x2048x1024 .f32) (a : FVec Ideal S1024x1024 .f32) (I : IVec S2560 32) : FVec Ideal S8x5120x64 .f32 :=
  shapeCast _ (takeRows (prod (mat x) (flip a)) I) shapeCasts_S2560x1024_S8x5120x64

/-- Attention as the program computes it, from the chosen rows of the three projections. -/
def attn (q k v : FVec Ideal S8x5120x64 .f32) : FVec Ideal S8x5120x64 .f32 :=
  shifted (rowMax k) (roped q (perHead (Host.cos angles)) (perHead (Host.sin angles))) (roped k (perHead (Host.cos angles)) (perHead (Host.sin angles))) v

/-- The first result as the program computes it, from the scores. -/
def outOf (S : FVec Ideal S2048x8 .f32) (x : FVec Ideal S1x2048x1024 .f32) (a1 a2 a3 a4 : FVec Ideal S1024x1024 .f32) : FVec Ideal S1x2048x1024 .f32 :=
  shapeCast _ (prod (addBack (attn (heads x a1 (flatIdx S)) (heads x a2 (flatIdx S)) (heads x a3 (flatIdx S))) (weightsOf (topOf S).1) (flatIdx S)) (flip a4))
    shapeCasts_S2048x1024_S1x2048x1024

variable (m : (ℓ : Loc nD τ sig) → Buf (Elt Ideal) ℓ) (ρ : Dev nD → PrngReg)

/-- What this buffer holds at this boundary of the run, from the arguments. -/
theorem at1_v0 (c : Dev nD) : W1 m ρ c (Proc.devRef .tc main_v0) = mat (m ((c.tc : Thread nD τ).loc main_arg0)) := by
  refine (read_v0 (W0 m ρ c)).trans ?_
  rw [W0_args m ρ c main_arg0 (by decide)]
  try rfl

/-- What this buffer holds at this boundary of the run, from the arguments. -/
theorem at1_v1 (c : Dev nD) : W1 m ρ c (Proc.devRef .tc main_v1) = transpose S1024x512 [1, 0] (m ((c.tc : Thread nD τ).loc main_arg5)) transposes_S512x1024_S1024x512_1_0 := by
  refine (read_v1 (W0 m ρ c)).trans ?_
  rw [W0_args m ρ c main_arg5 (by decide)]
  try rfl

/-- What this buffer holds at this boundary of the run, from the arguments. -/
theorem at1_v2 (c : Dev nD) : W1 m ρ c (Proc.devRef .tc main_v2) = shapeCast _ (m ((c.tc : Thread nD τ).loc main_arg6)) shapeCasts_S512_S1x512 := by
  refine (read_v2 (W0 m ρ c)).trans ?_
  rw [W0_args m ρ c main_arg6 (by decide)]
  try rfl

/-- What this buffer holds at this boundary of the run, from the arguments. -/
theorem at2_v3 (c : Dev nD) : W2 m ρ c (Proc.devRef .tc main_v3) = hid (m ((c.tc : Thread nD τ).loc main_arg0)) (m ((c.tc : Thread nD τ).loc main_arg5)) (m ((c.tc : Thread nD τ).loc main_arg6)) := by
  refine (W2_arr m ρ c 3).trans ((final0 (V1 m ρ) c).trans ?_)
  have e_v0 : V1 m ρ c main_v0 = mat (m ((c.tc : Thread nD τ).loc main_arg0)) := at1_v0 m ρ c
  have e_v1 : V1 m ρ c main_v1 = transpose S1024x512 [1, 0] (m ((c.tc : Thread nD τ).loc main_arg5)) transposes_S512x1024_S1024x512_1_0 := at1_v1 m ρ c
  have e_v2 : V1 m ρ c main_v2 = shapeCast _ (m ((c.tc : Thread nD τ).loc main_arg6)) shapeCasts_S512_S1x512 := at1_v2 m ρ c
  rw [e_v0, e_v1, e_v2]
  try rfl

/-- What this buffer holds at this boundary of the run, from the arguments. -/
theorem at3_v10 (c : Dev nD) : W3 m ρ c (Proc.devRef .tc main_v10) = padT (m ((c.tc : Thread nD τ).loc main_arg7)) := by
  refine (read_v10 (W2 m ρ c)).trans ?_
  rw [W2_args m ρ c main_arg7 (by decide)]
  try rfl

/-- What this buffer holds at this boundary of the run, from the arguments. -/
theorem at3_v11 (c : Dev nD) : W3 m ρ c (Proc.devRef .tc main_v11) = padRow (m ((c.tc : Thread nD τ).loc main_arg8)) := by
  refine (read_v11 (W2 m ρ c)).trans ?_
  rw [W2_args m ρ c main_arg8 (by decide)]
  try rfl

/-- The same later in the run. -/
theorem at3_v3 (c : Dev nD) : W3 m ρ c (Proc.devRef .tc main_v3) = hid (m ((c.tc : Thread nD τ).loc main_arg0)) (m ((c.tc : Thread nD τ).loc main_arg5)) (m ((c.tc : Thread nD τ).loc main_arg6)) :=
  ((W3_of m ρ c main_v3 (by decide))).trans (at2_v3 m ρ c)

/-- What this buffer holds at this boundary of the run, from the arguments. -/
theorem at4_v12 (c : Dev nD) : W4 m ρ c (Proc.devRef .tc main_v12) = rowsCols (hid (m ((c.tc : Thread nD τ).loc main_arg0)) (m ((c.tc : Thread nD τ).loc main_arg5)) (m ((c.tc : Thread nD τ).loc main_arg6))) (padT (m ((c.tc : Thread nD τ).loc main_arg7))) (padRow (m ((c.tc : Thread nD τ).loc main_arg8))) := by
  refine (W4_arr m ρ c 3).trans ((final1 (V3 m ρ) c).trans ?_)
  have e_v3 : V3 m ρ c main_v3 = hid (m ((c.tc : Thread nD τ).loc main_arg0)) (m ((c.tc : Thread nD τ).loc main_arg5)) (m ((c.tc : Thread nD τ).loc main_arg6)) := at3_v3 m ρ c
  have e_v10 : V3 m ρ c main_v10 = padT (m ((c.tc : Thread nD τ).loc main_arg7)) := at3_v10 m ρ c
  have e_v11 : V3 m ρ c main_v11 = padRow (m ((c.tc : Thread nD τ).loc main_arg8)) := at3_v11 m ρ c
  rw [e_v3, e_v10, e_v11]
  try rfl

/-- What this buffer holds at this boundary of the run, from the arguments. -/
theorem at5_v17 (c : Dev nD) : W5 m ρ c (Proc.devRef .tc main_v17) = auxOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) := by
  refine (read_v17 (W4 m ρ c)).trans ?_
  rw [at4_v12 m ρ c]
  try rfl

/-- What this buffer holds at this boundary of the run, from the arguments. -/
theorem at5_v29 (c : Dev nD) : W5 m ρ c (Proc.devRef .tc main_v29) = weightsOf (topOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))).1 := by
  refine (read_v29 (W4 m ρ c)).trans ?_
  rw [at4_v12 m ρ c]
  try rfl

/-- What this buffer holds at this boundary of the run, from the arguments. -/
theorem at5_v30 (c : Dev nD) : W5 m ρ c (Proc.devRef .tc main_v30) = flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) := by
  refine (read_v30 (W4 m ρ c)).trans ?_
  rw [at4_v12 m ρ c]
  try rfl

/-- What this buffer holds at this boundary of the run, from the arguments. -/
theorem at5_v31 (c : Dev nD) : W5 m ρ c (Proc.devRef .tc main_v31) = flip (m ((c.tc : Thread nD τ).loc main_arg1)) := by
  refine (read_v31 (W4 m ρ c)).trans ?_
  rw [W4_args m ρ c main_arg1 (by decide)]
  try rfl

/-- The same later in the run. -/
theorem at5_v0 (c : Dev nD) : W5 m ρ c (Proc.devRef .tc main_v0) = mat (m ((c.tc : Thread nD τ).loc main_arg0)) :=
  ((W5_of m ρ c main_v0 (by decide)).trans ((W4_of m ρ c main_v0 (by decide)).trans ((W3_of m ρ c main_v0 (by decide)).trans ((W2_of m ρ c main_v0 (by decide)))))).trans (at1_v0 m ρ c)

/-- What this buffer holds at this boundary of the run, from the arguments. -/
theorem at6_v32 (c : Dev nD) : W6 m ρ c (Proc.devRef .tc main_v32) = prod (mat (m ((c.tc : Thread nD τ).loc main_arg0))) (flip (m ((c.tc : Thread nD τ).loc main_arg1))) := by
  refine (W6_arr m ρ c 2).trans ((final2 (V5 m ρ) c).trans ?_)
  have e_v0 : V5 m ρ c main_v0 = mat (m ((c.tc : Thread nD τ).loc main_arg0)) := at5_v0 m ρ c
  have e_v31 : V5 m ρ c main_v31 = flip (m ((c.tc : Thread nD τ).loc main_arg1)) := at5_v31 m ρ c
  rw [e_v0, e_v31]
  try rfl

/-- What this buffer holds at this boundary of the run, from the arguments. -/
theorem at7_v33 (c : Dev nD) : W7 m ρ c (Proc.devRef .tc main_v33) = flip (m ((c.tc : Thread nD τ).loc main_arg2)) := by
  refine (read_v33 (W6 m ρ c)).trans ?_
  rw [W6_args m ρ c main_arg2 (by decide)]
  try rfl

/-- The same later in the run. -/
theorem at7_v0 (c : Dev nD) : W7 m ρ c (Proc.devRef .tc main_v0) = mat (m ((c.tc : Thread nD τ).loc main_arg0)) :=
  ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)))))))).trans (at1_v0 m ρ c)

/-- What this buffer holds at this boundary of the run, from the arguments. -/
theorem at8_v34 (c : Dev nD) : W8 m ρ c (Proc.devRef .tc main_v34) = prod (mat (m ((c.tc : Thread nD τ).loc main_arg0))) (flip (m ((c.tc : Thread nD τ).loc main_arg2))) := by
  refine (W8_arr m ρ c 2).trans ((final3 (V7 m ρ) c).trans ?_)
  have e_v0 : V7 m ρ c main_v0 = mat (m ((c.tc : Thread nD τ).loc main_arg0)) := at7_v0 m ρ c
  have e_v33 : V7 m ρ c main_v33 = flip (m ((c.tc : Thread nD τ).loc main_arg2)) := at7_v33 m ρ c
  rw [e_v0, e_v33]
  try rfl

/-- What this buffer holds at this boundary of the run, from the arguments. -/
theorem at9_v35 (c : Dev nD) : W9 m ρ c (Proc.devRef .tc main_v35) = flip (m ((c.tc : Thread nD τ).loc main_arg3)) := by
  refine (read_v35 (W8 m ρ c)).trans ?_
  rw [W8_args m ρ c main_arg3 (by decide)]
  try rfl

/-- The same later in the run. -/
theorem at9_v0 (c : Dev nD) : W9 m ρ c (Proc.devRef .tc main_v0) = mat (m ((c.tc : Thread nD τ).loc main_arg0)) :=
  ((W9_of m ρ c main_v0 (by decide)).trans ((W8_of m ρ c main_v0 (by decide)).trans ((W7_of m ρ c main_v0 (by decide)).trans ((W6_of m ρ c main_v0 (by decide)).trans ((W5_of m ρ c main_v0 (by decide)).trans ((W4_of m ρ c main_v0 (by decide)).trans ((W3_of m ρ c main_v0 (by decide)).trans ((W2_of m ρ c main_v0 (by decide)))))))))).trans (at1_v0 m ρ c)

/-- What this buffer holds at this boundary of the run, from the arguments. -/
theorem at10_v36 (c : Dev nD) : W10 m ρ c (Proc.devRef .tc main_v36) = prod (mat (m ((c.tc : Thread nD τ).loc main_arg0))) (flip (m ((c.tc : Thread nD τ).loc main_arg3))) := by
  refine (W10_arr m ρ c 2).trans ((final4 (V9 m ρ) c).trans ?_)
  have e_v0 : V9 m ρ c main_v0 = mat (m ((c.tc : Thread nD τ).loc main_arg0)) := at9_v0 m ρ c
  have e_v35 : V9 m ρ c main_v35 = flip (m ((c.tc : Thread nD τ).loc main_arg3)) := at9_v35 m ρ c
  rw [e_v0, e_v35]
  try rfl

/-- The same later in the run. -/
theorem at10_v32 (c : Dev nD) : W10 m ρ c (Proc.devRef .tc main_v32) = prod (mat (m ((c.tc : Thread nD τ).loc main_arg0))) (flip (m ((c.tc : Thread nD τ).loc main_arg1))) :=
  ((W10_of m ρ c main_v32 (by decide)).trans ((W9_of m ρ c main_v32 (by decide)).trans ((W8_of m ρ c main_v32 (by decide)).trans ((W7_of m ρ c main_v32 (by decide)))))).trans (at6_v32 m ρ c)

/-- The same later in the run. -/
theorem at10_v30 (c : Dev nD) : W10 m ρ c (Proc.devRef .tc main_v30) = flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) :=
  ((W10_of m ρ c main_v30 (by decide)).trans ((W9_of m ρ c main_v30 (by decide)).trans ((W8_of m ρ c main_v30 (by decide)).trans ((W7_of m ρ c main_v30 (by decide)).trans ((W6_of m ρ c main_v30 (by decide))))))).trans (at5_v30 m ρ c)

/-- What this buffer holds at this boundary of the run, from the arguments. -/
theorem at11_v37 (c : Dev nD) : W11 m ρ c (Proc.devRef .tc main_v37) = takeRows (prod (mat (m ((c.tc : Thread nD τ).loc main_arg0))) (flip (m ((c.tc : Thread nD τ).loc main_arg1)))) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := by
  refine (read_v37 (W10 m ρ c)).trans ?_
  rw [at10_v32 m ρ c, at10_v30 m ρ c]
  try rfl

/-- What this buffer holds at this boundary of the run, from the arguments. -/
theorem at12_v38 (c : Dev nD) : W12 m ρ c (Proc.devRef .tc main_v38) = heads (m ((c.tc : Thread nD τ).loc main_arg0)) (m ((c.tc : Thread nD τ).loc main_arg1)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := by
  refine (read_v38 (W11 m ρ c)).trans ?_
  rw [at11_v37 m ρ c]
  try rfl

/-- The same later in the run. -/
theorem at12_v34 (c : Dev nD) : W12 m ρ c (Proc.devRef .tc main_v34) = prod (mat (m ((c.tc : Thread nD τ).loc main_arg0))) (flip (m ((c.tc : Thread nD τ).loc main_arg2))) :=
  ((W12_of m ρ c main_v34 (by decide)).trans ((W11_of m ρ c main_v34 (by decide)).trans ((W10_of m ρ c main_v34 (by decide)).trans ((W9_of m ρ c main_v34 (by decide)))))).trans (at8_v34 m ρ c)

/-- The same later in the run. -/
theorem at12_v30 (c : Dev nD) : W12 m ρ c (Proc.devRef .tc main_v30) = flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) :=
  ((W12_of m ρ c main_v30 (by decide)).trans ((W11_of m ρ c main_v30 (by decide)).trans ((W10_of m ρ c main_v30 (by decide)).trans ((W9_of m ρ c main_v30 (by decide)).trans ((W8_of m ρ c main_v30 (by decide)).trans ((W7_of m ρ c main_v30 (by decide)).trans ((W6_of m ρ c main_v30 (by decide))))))))).trans (at5_v30 m ρ c)

/-- What this buffer holds at this boundary of the run, from the arguments. -/
theorem at13_v39 (c : Dev nD) : W13 m ρ c (Proc.devRef .tc main_v39) = takeRows (prod (mat (m ((c.tc : Thread nD τ).loc main_arg0))) (flip (m ((c.tc : Thread nD τ).loc main_arg2)))) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := by
  refine (read_v39 (W12 m ρ c)).trans ?_
  rw [at12_v34 m ρ c, at12_v30 m ρ c]
  try rfl

/-- What this buffer holds at this boundary of the run, from the arguments. -/
theorem at14_v40 (c : Dev nD) : W14 m ρ c (Proc.devRef .tc main_v40) = heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := by
  refine (read_v40 (W13 m ρ c)).trans ?_
  rw [at13_v39 m ρ c]
  try rfl

/-- The same later in the run. -/
theorem at14_v36 (c : Dev nD) : W14 m ρ c (Proc.devRef .tc main_v36) = prod (mat (m ((c.tc : Thread nD τ).loc main_arg0))) (flip (m ((c.tc : Thread nD τ).loc main_arg3))) :=
  ((W14_of m ρ c main_v36 (by decide)).trans ((W13_of m ρ c main_v36 (by decide)).trans ((W12_of m ρ c main_v36 (by decide)).trans ((W11_of m ρ c main_v36 (by decide)))))).trans (at10_v36 m ρ c)

/-- The same later in the run. -/
theorem at14_v30 (c : Dev nD) : W14 m ρ c (Proc.devRef .tc main_v30) = flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) :=
  ((W14_of m ρ c main_v30 (by decide)).trans ((W13_of m ρ c main_v30 (by decide)).trans ((W12_of m ρ c main_v30 (by decide)).trans ((W11_of m ρ c main_v30 (by decide)).trans ((W10_of m ρ c main_v30 (by decide)).trans ((W9_of m ρ c main_v30 (by decide)).trans ((W8_of m ρ c main_v30 (by decide)).trans ((W7_of m ρ c main_v30 (by decide)).trans ((W6_of m ρ c main_v30 (by decide))))))))))).trans (at5_v30 m ρ c)

/-- What this buffer holds at this boundary of the run, from the arguments. -/
theorem at15_v41 (c : Dev nD) : W15 m ρ c (Proc.devRef .tc main_v41) = takeRows (prod (mat (m ((c.tc : Thread nD τ).loc main_arg0))) (flip (m ((c.tc : Thread nD τ).loc main_arg3)))) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := by
  refine (read_v41 (W14 m ρ c)).trans ?_
  rw [at14_v36 m ρ c, at14_v30 m ρ c]
  try rfl

/-- What this buffer holds at this boundary of the run, from the arguments. -/
theorem at16_v42 (c : Dev nD) : W16 m ρ c (Proc.devRef .tc main_v42) = heads (m ((c.tc : Thread nD τ).loc main_arg0)) (m ((c.tc : Thread nD τ).loc main_arg3)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := by
  refine (read_v42 (W15 m ρ c)).trans ?_
  rw [at15_v41 m ρ c]
  try rfl

/-- What this buffer holds at this boundary of the run, from the arguments. -/
theorem at16_v63 (c : Dev nD) : W16 m ρ c (Proc.devRef .tc main_v63) = perHead (Host.cos angles) := by
  refine (read_v63 (W15 m ρ c)).trans ?_
  try rfl

/-- What this buffer holds at this boundary of the run, from the arguments. -/
theorem at16_v66 (c : Dev nD) : W16 m ρ c (Proc.devRef .tc main_v66) = perHead (Host.sin angles) := by
  refine (read_v66 (W15 m ρ c)).trans ?_
  try rfl

/-- The same later in the run. -/
theorem at16_v40 (c : Dev nD) : W16 m ρ c (Proc.devRef .tc main_v40) = heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) :=
  ((W16_of m ρ c main_v40 (by decide)).trans ((W15_of m ρ c main_v40 (by decide)))).trans (at14_v40 m ρ c)

/-- What this buffer holds at this boundary of the run, from the arguments. -/
theorem at17_v67_0 (c : Dev nD) : W17 m ρ c (Proc.devRef .tc main_v67_0) = roped (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (perHead (Host.cos angles)) (perHead (Host.sin angles)) := by
  refine (W17_arr m ρ c 3).trans ((final5_3 (V16 m ρ) c).trans ?_)
  have e_v40 : V16 m ρ c main_v40 = heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := at16_v40 m ρ c
  have e_v63 : V16 m ρ c main_v63 = perHead (Host.cos angles) := at16_v63 m ρ c
  have e_v66 : V16 m ρ c main_v66 = perHead (Host.sin angles) := at16_v66 m ρ c
  rw [e_v40, e_v63, e_v66]
  try rfl

/-- What this buffer holds at this boundary of the run, from the arguments. -/
theorem at17_v67_1 (c : Dev nD) : W17 m ρ c (Proc.devRef .tc main_v67_1) = rowMax (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) := by
  refine (W17_arr m ρ c 4).trans ((final5_4 (V16 m ρ) c).trans ?_)
  have e_v40 : V16 m ρ c main_v40 = heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := at16_v40 m ρ c
  rw [e_v40]
  try rfl

/-- The same later in the run. -/
theorem at17_v38 (c : Dev nD) : W17 m ρ c (Proc.devRef .tc main_v38) = heads (m ((c.tc : Thread nD τ).loc main_arg0)) (m ((c.tc : Thread nD τ).loc main_arg1)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) :=
  ((W17_of m ρ c main_v38 (by decide)).trans ((W16_of m ρ c main_v38 (by decide)).trans ((W15_of m ρ c main_v38 (by decide)).trans ((W14_of m ρ c main_v38 (by decide)).trans ((W13_of m ρ c main_v38 (by decide))))))).trans (at12_v38 m ρ c)

/-- The same later in the run. -/
theorem at17_v63 (c : Dev nD) : W17 m ρ c (Proc.devRef .tc main_v63) = perHead (Host.cos angles) :=
  ((W17_of m ρ c main_v63 (by decide))).trans (at16_v63 m ρ c)

/-- The same later in the run. -/
theorem at17_v66 (c : Dev nD) : W17 m ρ c (Proc.devRef .tc main_v66) = perHead (Host.sin angles) :=
  ((W17_of m ρ c main_v66 (by decide))).trans (at16_v66 m ρ c)

/-- The same later in the run. -/
theorem at17_v42 (c : Dev nD) : W17 m ρ c (Proc.devRef .tc main_v42) = heads (m ((c.tc : Thread nD τ).loc main_arg0)) (m ((c.tc : Thread nD τ).loc main_arg3)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) :=
  ((W17_of m ρ c main_v42 (by decide))).trans (at16_v42 m ρ c)

/-- What this buffer holds at this boundary of the run, from the arguments. -/
theorem at18_v68 (c : Dev nD) : W18 m ρ c (Proc.devRef .tc main_v68) = attn (heads (m ((c.tc : Thread nD τ).loc main_arg0)) (m ((c.tc : Thread nD τ).loc main_arg1)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg3)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) := by
  refine (W18_arr m ρ c 6).trans ((final6 (V17 m ρ) c).trans ?_)
  have e_v67_1 : V17 m ρ c main_v67_1 = rowMax (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) := at17_v67_1 m ρ c
  have e_v38 : V17 m ρ c main_v38 = heads (m ((c.tc : Thread nD τ).loc main_arg0)) (m ((c.tc : Thread nD τ).loc main_arg1)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := at17_v38 m ρ c
  have e_v63 : V17 m ρ c main_v63 = perHead (Host.cos angles) := at17_v63 m ρ c
  have e_v66 : V17 m ρ c main_v66 = perHead (Host.sin angles) := at17_v66 m ρ c
  have e_v67_0 : V17 m ρ c main_v67_0 = roped (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (perHead (Host.cos angles)) (perHead (Host.sin angles)) := at17_v67_0 m ρ c
  have e_v42 : V17 m ρ c main_v42 = heads (m ((c.tc : Thread nD τ).loc main_arg0)) (m ((c.tc : Thread nD τ).loc main_arg3)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := at17_v42 m ρ c
  rw [e_v67_1, e_v38, e_v63, e_v66, e_v67_0, e_v42]
  try rfl

/-- The same later in the run. -/
theorem at18_v29 (c : Dev nD) : W18 m ρ c (Proc.devRef .tc main_v29) = weightsOf (topOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))).1 :=
  ((W18_of m ρ c main_v29 (by decide)).trans ((W17_of m ρ c main_v29 (by decide)).trans ((W16_of m ρ c main_v29 (by decide)).trans ((W15_of m ρ c main_v29 (by decide)).trans ((W14_of m ρ c main_v29 (by decide)).trans ((W13_of m ρ c main_v29 (by decide)).trans ((W12_of m ρ c main_v29 (by decide)).trans ((W11_of m ρ c main_v29 (by decide)).trans ((W10_of m ρ c main_v29 (by decide)).trans ((W9_of m ρ c main_v29 (by decide)).trans ((W8_of m ρ c main_v29 (by decide)).trans ((W7_of m ρ c main_v29 (by decide)).trans ((W6_of m ρ c main_v29 (by decide))))))))))))))).trans (at5_v29 m ρ c)

/-- The same later in the run. -/
theorem at18_v30 (c : Dev nD) : W18 m ρ c (Proc.devRef .tc main_v30) = flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) :=
  ((W18_of m ρ c main_v30 (by decide)).trans ((W17_of m ρ c main_v30 (by decide)).trans ((W16_of m ρ c main_v30 (by decide)).trans ((W15_of m ρ c main_v30 (by decide)).trans ((W14_of m ρ c main_v30 (by decide)).trans ((W13_of m ρ c main_v30 (by decide)).trans ((W12_of m ρ c main_v30 (by decide)).trans ((W11_of m ρ c main_v30 (by decide)).trans ((W10_of m ρ c main_v30 (by decide)).trans ((W9_of m ρ c main_v30 (by decide)).trans ((W8_of m ρ c main_v30 (by decide)).trans ((W7_of m ρ c main_v30 (by decide)).trans ((W6_of m ρ c main_v30 (by decide))))))))))))))).trans (at5_v30 m ρ c)

/-- What this buffer holds at this boundary of the run, from the arguments. -/
theorem at19_v80 (c : Dev nD) : W19 m ρ c (Proc.devRef .tc main_v80) = addBack (attn (heads (m ((c.tc : Thread nD τ).loc main_arg0)) (m ((c.tc : Thread nD τ).loc main_arg1)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg3)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))))) (weightsOf (topOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))).1) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := by
  refine (read_v80 (W18 m ρ c)).trans ?_
  rw [at18_v68 m ρ c, at18_v29 m ρ c, at18_v30 m ρ c]
  try rfl

/-- What this buffer holds at this boundary of the run, from the arguments. -/
theorem at19_v81 (c : Dev nD) : W19 m ρ c (Proc.devRef .tc main_v81) = flip (m ((c.tc : Thread nD τ).loc main_arg4)) := by
  refine (read_v81 (W18 m ρ c)).trans ?_
  rw [W18_args m ρ c main_arg4 (by decide)]
  try rfl

/-- What this buffer holds at this boundary of the run, from the arguments. -/
theorem at20_v82 (c : Dev nD) : W20 m ρ c (Proc.devRef .tc main_v82) = prod (addBack (attn (heads (m ((c.tc : Thread nD τ).loc main_arg0)) (m ((c.tc : Thread nD τ).loc main_arg1)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg3)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))))) (weightsOf (topOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))).1) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (flip (m ((c.tc : Thread nD τ).loc main_arg4))) := by
  refine (W20_arr m ρ c 2).trans ((final7 (V19 m ρ) c).trans ?_)
  have e_v80 : V19 m ρ c main_v80 = addBack (attn (heads (m ((c.tc : Thread nD τ).loc main_arg0)) (m ((c.tc : Thread nD τ).loc main_arg1)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg2)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))))) (heads (m ((c.tc : Thread nD τ).loc main_arg0)) (m ((c.tc : Thread nD τ).loc main_arg3)) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))))) (weightsOf (topOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))).1) (flatIdx (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)))) := at19_v80 m ρ c
  have e_v81 : V19 m ρ c main_v81 = flip (m ((c.tc : Thread nD τ).loc main_arg4)) := at19_v81 m ρ c
  rw [e_v80, e_v81]
  try rfl

/-- What this buffer holds at this boundary of the run, from the arguments. -/
theorem at21_v83 (c : Dev nD) : W21 m ρ c (Proc.devRef .tc main_v83) = outOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (read_v83 (W20 m ρ c)).trans ?_
  rw [at20_v82 m ρ c]
  try rfl

/-- The same later in the run. -/
theorem at21_v17 (c : Dev nD) : W21 m ρ c (Proc.devRef .tc main_v17) = auxOf (scores (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8))) :=
  ((W21_of m ρ c main_v17 (by decide)).trans ((W20_of m ρ c main_v17 (by decide)).trans ((W19_of m ρ c main_v17 (by decide)).trans ((W18_of m ρ c main_v17 (by decide)).trans ((W17_of m ρ c main_v17 (by decide)).trans ((W16_of m ρ c main_v17 (by decide)).trans ((W15_of m ρ c main_v17 (by decide)).trans ((W14_of m ρ c main_v17 (by decide)).trans ((W13_of m ρ c main_v17 (by decide)).trans ((W12_of m ρ c main_v17 (by decide)).trans ((W11_of m ρ c main_v17 (by decide)).trans ((W10_of m ρ c main_v17 (by decide)).trans ((W9_of m ρ c main_v17 (by decide)).trans ((W8_of m ρ c main_v17 (by decide)).trans ((W7_of m ρ c main_v17 (by decide)).trans ((W6_of m ρ c main_v17 (by decide)))))))))))))))))).trans (at5_v17 m ρ c)

end Cert.KernelIdeal.Own
-- ==== Proof.Rows.lean ====
module

public import proofs.«01_k».proof.Proof.Chain
public import Idealize.ShloMosaic.Lib.Routing.Ops
public import Idealize.ShloMosaic.Lib.Routing.OpsSet
public import Idealize.ShloMosaic.Lib.SortFacts
public import proofs.«01_k».proof.Proof.Gen.ReferenceIdeal.Run

@[expose] public section

set_option maxRecDepth 16384

noncomputable section

namespace Cert.KernelIdeal.Own

open Idealize.ShloMosaic Idealize.ShloMosaic.TcCoe Idealize.SL.Sem
open Cert.KernelIdeal Cert.KernelIdeal.Gen

open Idealize.ShloMosaic.Routing

/-- Every number the selection returns is a row's. -/
theorem topOf_range (S : FVec Ideal S2048x8 .f32) (y : S8x320.Idx) : ∃ k : Fin 2048, (topOf S).2 y = BitVec.ofNat 32 k.val := by
  unfold topOf Host.topK
  dsimp only
  unfold Host.sort2
  rw [dif_pos (show 1 < S8x2048.rank by decide)]
  dsimp only [extractStridedSlice]
  rw [dif_pos (show 1 < S8x2048.rank by decide)]
  exact ⟨_, rfl⟩

/-- The row that timeline `b` chooses at place `t`. -/
def rowOf (S : FVec Ideal S2048x8 .f32) (b : Fin 8) (t : Fin 320) : Fin 2048 := (topOf_range S (ix2 b t)).choose

/-- The selection returns the number of that row. -/
theorem rowOf_spec (S : FVec Ideal S2048x8 .f32) (b : Fin 8) (t : Fin 320) :
    (topOf S).2 (ix2 b t) = BitVec.ofNat 32 (rowOf S b t).val := (topOf_range S (ix2 b t)).choose_spec

/-- The flat list of chosen rows, at its place `p`. -/
theorem flatIdx_at (S : FVec Ideal S2048x8 .f32) (p : Fin 2560) :
    flatIdx S (ix1 p) = BitVec.ofNat 32 (rowOf S ⟨p.val / 320, by omega⟩ ⟨p.val % 320, by omega⟩).val := by
  unfold flatIdx
  pointwise
  exact rowOf_spec S _ _

/-- A number below 2048 is not negative, so that it is not counted from the end. -/
theorem wrap_small (k : Fin 2048) : Scalar.select (IntOp.cmpi .slt (BitVec.ofNat 32 k.val) 0#32) (BitVec.ofNat 32 k.val + 2048#32) (BitVec.ofNat 32 k.val)
    = BitVec.ofNat 32 k.val :=
  wrap_of_lt _ _ (by have := k.isLt; rw [BitVec.toNat_ofNat]; omega)

/-- A number below 2048 lies between the two bounds of the range test. -/
theorem in_range (k : Fin 2048) : IntOp.andi (IntOp.cmpi .sge (BitVec.ofNat 32 k.val) 0#32) (IntOp.cmpi .sle (BitVec.ofNat 32 k.val) 2047#32) = 1#1 := by
  revert k; decide +kernel

/-- The column of row numbers, at its place `p`. -/
theorem col_at (I : IVec S2560 32) (p : Fin 2560) (k : Fin 2048) (h : I (ix1 p) = BitVec.ofNat 32 k.val) :
    col I (ix2 p 0) = BitVec.ofNat 32 k.val := by
  unfold col
  pointwise
  rw [h]
  exact wrap_small k

/-- The chosen rows of a matrix, at an element. -/
theorem takeRows_at (X : FVec Ideal S2048x1024 .f32) (I : IVec S2560 32) (p : Fin 2560) (e : Fin 1024) (k : Fin 2048)
    (h : I (ix1 p) = BitVec.ofNat 32 k.val) : takeRows X I (ix2 p e) = X (ix2 k e) := by
  have hc := col_at I p k h
  have hg : Host.gather gather_S2048x1024_S2560x1_S2560x1024_1_0_n_n_0_1_11024 X (col I) (ix2 p e) = X (ix2 k e) :=
    gather_row gather_S2048x1024_S2560x1_S2560x1024_1_0_n_n_0_1_11024 rfl rfl rfl rfl rfl X (col I) p e k hc (by norm_num)
  unfold takeRows
  generalize col I = J at hc hg
  pointwise
  rw [hg]
  have hs : ∀ x : Fin 1, IntOp.andi (IntOp.cmpi CmpIPredicate.sge (J (ix2 p x)) 0#32) (IntOp.cmpi CmpIPredicate.sle (J (ix2 p x)) 2047#32) = 1#1 := fun x => by
    obtain rfl : x = 0 := Subsingleton.elim _ _
    rw [hc]; exact in_range k
  simp only [hs, Finset.univ_unique, Finset.fold_singleton]
  rfl

/-- The reference's column of row numbers. -/
def col3 (J : IVec S8x320 32) : IVec Cert.ReferenceIdeal.S8x320x1 32 :=
  broadcastInDim Cert.ReferenceIdeal.S8x320x1 ![0, 1] Cert.ReferenceIdeal.Gen.bcast_S8x320_S8x320x1_0_1 (select (cmpi .slt J (broadcastInDim Cert.ReferenceIdeal.S8x320 ![] Cert.ReferenceIdeal.Gen.bcast_S_S8x320 (constantI Cert.ReferenceIdeal.S_ 32 0#32)))
    (addi J (broadcastInDim Cert.ReferenceIdeal.S8x320 ![] Cert.ReferenceIdeal.Gen.bcast_S_S8x320 (constantI Cert.ReferenceIdeal.S_ 32 2048#32))) J)

/-- The reference's rows of an array of heads. -/
def take4 (X : FVec Ideal Cert.ReferenceIdeal.S2048x16x64 .f32) (J : IVec S8x320 32) : FVec Ideal Cert.ReferenceIdeal.S8x320x16x64 .f32 :=
  select (broadcastInDim Cert.ReferenceIdeal.S8x320x16x64 ![0, 1] Cert.ReferenceIdeal.Gen.bcast_S8x320_S8x320x16x64_0_1 (Host.reduce IntOp.andi (andi (cmpi .sge (col3 J) (broadcastInDim Cert.ReferenceIdeal.S8x320x1 ![] Cert.ReferenceIdeal.Gen.bcast_S_S8x320x1 (constantI Cert.ReferenceIdeal.S_ 32 0#32)))
      (cmpi .sle (col3 J) (broadcastInDim Cert.ReferenceIdeal.S8x320x1 ![0, 1, 2] Cert.ReferenceIdeal.Gen.bcast_S1x1x1_S8x320x1_0_1_2 (broadcastInDim Cert.ReferenceIdeal.S1x1x1 ![2] Cert.ReferenceIdeal.Gen.bcast_S1_S1x1x1_2 (constantI Cert.ReferenceIdeal.S1 32 2047#32)))))
      (constantI Cert.ReferenceIdeal.S_ 1 1#1) Cert.ReferenceIdeal.Gen.reducesTo_S8x320x1_S8x320_d2 Cert.ReferenceIdeal.Gen.h_S_))
    (Host.gather Cert.ReferenceIdeal.gather_S2048x16x64_S8x320x1_S8x320x16x64_23_0_n_n_0_2_11664 X (col3 J))
    (broadcastInDim Cert.ReferenceIdeal.S8x320x16x64 ![] Cert.ReferenceIdeal.Gen.bcast_S_S8x320x16x64 (constant Cert.ReferenceIdeal.S_ .f32 0x7FC00000#32))

/-- The reference's column of row numbers, at a place. -/
theorem col3_at (J : IVec S8x320 32) (b : Fin 8) (t : Fin 320) (k : Fin 2048) (h : J (ix2 b t) = BitVec.ofNat 32 k.val) :
    col3 J (ix3 b t 0) = BitVec.ofNat 32 k.val := by
  unfold col3
  pointwise
  rw [h]
  exact wrap_small k

/-- The reference's gather, at an element. -/
theorem gather4_at (X : FVec Ideal Cert.ReferenceIdeal.S2048x16x64 .f32) (J : IVec Cert.ReferenceIdeal.S8x320x1 32) (b : Fin 8) (t : Fin 320) (h : Fin 16) (d : Fin 64) (k : Fin 2048)
    (hk : J (ix3 b t 0) = BitVec.ofNat 32 k.val) :
    Host.gather Cert.ReferenceIdeal.gather_S2048x16x64_S8x320x1_S8x320x16x64_23_0_n_n_0_2_11664 X J (ix4 b t h d) = X (ix3 k h d) := by
  unfold Host.gather
  refine congrArg X (funext fun a => Fin.ext ?_)
  match a with
  | ⟨0, _⟩ =>
    have e : Cert.ReferenceIdeal.gather_S2048x16x64_S8x320x1_S8x320x16x64_23_0_n_n_0_2_11664.siIdx (ix4 b t h d) ⟨0, by decide⟩ = ix3 b t 0 := by
      funext q; match q with
      | ⟨0, _⟩ => rfl
      | ⟨1, _⟩ => rfl
      | ⟨2, _⟩ => rfl
    show min (J (Cert.ReferenceIdeal.gather_S2048x16x64_S8x320x1_S8x320x16x64_23_0_n_n_0_2_11664.siIdx (ix4 b t h d) ⟨0, by decide⟩)).toInt.toNat (2048 - 1) + 0 + 0 = k.val
    rw [e, hk]
    have := k.isLt
    have e2 : (BitVec.ofNat 32 k.val).toInt = (k.val : Int) := by
      rw [BitVec.toInt_eq_toNat_of_lt (by rw [BitVec.toNat_ofNat]; omega), BitVec.toNat_ofNat]; omega
    rw [e2]
    omega
  | ⟨1, _⟩ => show 0 + 0 + h.val = h.val; omega
  | ⟨2, _⟩ => show 0 + 0 + d.val = d.val; omega

/-- The reference's chosen rows of an array of heads, at an element. -/
theorem take4_at (X : FVec Ideal Cert.ReferenceIdeal.S2048x16x64 .f32) (J : IVec S8x320 32) (b : Fin 8) (t : Fin 320) (h : Fin 16) (d : Fin 64) (k : Fin 2048)
    (hk : J (ix2 b t) = BitVec.ofNat 32 k.val) : take4 X J (ix4 b t h d) = X (ix3 k h d) := by
  have hc := col3_at J b t k hk
  have hg := gather4_at X (col3 J) b t h d k hc
  unfold take4
  generalize col3 J = C at hc hg
  pointwise
  rw [hg]
  have hs : ∀ x : Fin 1, IntOp.andi (IntOp.cmpi CmpIPredicate.sge (C (ix3 b t x)) 0#32) (IntOp.cmpi CmpIPredicate.sle (C (ix3 b t x)) 2047#32) = 1#1 := fun x => by
    obtain rfl : x = 0 := Subsingleton.elim _ _
    rw [hc]; exact in_range k
  simp only [hs, Finset.univ_unique, Finset.fold_singleton]
  rfl

/-- Where an update of the program's accumulation lands. -/
theorem lands2 (C : IVec S2560x1 32) (p : Fin 2560) (e : Fin 1024) (r : Fin 2048) (c : Fin 1024) :
    scatter_S2048x1024_S2560x1_S2560x1024_1_0_0_1.resultIdx? (ix2 p e) C = some (ix2 r c) ↔ (C (ix2 p 0)).toInt = r.val ∧ e = c := by
  rw [resultIdx?_eq_some]
  refine Fin.forall_fin_two.trans ?_
  have i0 : scatter_S2048x1024_S2560x1_S2560x1024_1_0_0_1.start (ix2 p e) C 0 = (C (ix2 p 0)).toInt := by
    unfold ScatterDims.start
    rw [dif_pos (by decide)]
    refine congrArg (fun q => (C q).toInt) (funext fun a => ?_)
    match a with
    | ⟨0, _⟩ => rfl
    | ⟨1, _⟩ => rfl
  have i1 : scatter_S2048x1024_S2560x1_S2560x1024_1_0_0_1.start (ix2 p e) C 1 = 0 := rfl
  have w0 : scatter_S2048x1024_S2560x1_S2560x1024_1_0_0_1.window (ix2 p e) 0 = 0 := rfl
  have w1 : scatter_S2048x1024_S2560x1_S2560x1024_1_0_0_1.window (ix2 p e) 1 = e.val := rfl
  rw [i0, i1, w0, w1]
  show ((C (ix2 p 0)).toInt + ((0 : Nat) : Int) = (r.val : Int) ∧ 0 + (e.val : Int) = (c.val : Int)) ↔ _
  rw [Fin.ext_iff]
  omega

/-- Where an update of the reference's accumulation lands. -/
theorem lands3 (C : IVec Cert.ReferenceIdeal.S8x320x1 32) (b : Fin 8) (t : Fin 320) (e : Fin 1024) (r : Fin 2048) (c : Fin 1024) :
    Cert.ReferenceIdeal.scatter_S2048x1024_S8x320x1_S8x320x1024_2_0_0_2.resultIdx? (ix3 b t e) C = some (ix2 r c) ↔ (C (ix3 b t 0)).toInt = r.val ∧ e = c := by
  rw [resultIdx?_eq_some]
  refine Fin.forall_fin_two.trans ?_
  have i0 : Cert.ReferenceIdeal.scatter_S2048x1024_S8x320x1_S8x320x1024_2_0_0_2.start (ix3 b t e) C 0 = (C (ix3 b t 0)).toInt := by
    unfold ScatterDims.start
    rw [dif_pos (by decide)]
    refine congrArg (fun q => (C q).toInt) (funext fun a => ?_)
    match a with
    | ⟨0, _⟩ => rfl
    | ⟨1, _⟩ => rfl
    | ⟨2, _⟩ => rfl
  have i1 : Cert.ReferenceIdeal.scatter_S2048x1024_S8x320x1_S8x320x1024_2_0_0_2.start (ix3 b t e) C 1 = 0 := rfl
  have w0 : Cert.ReferenceIdeal.scatter_S2048x1024_S8x320x1_S8x320x1024_2_0_0_2.window (ix3 b t e) 0 = 0 := rfl
  have w1 : Cert.ReferenceIdeal.scatter_S2048x1024_S8x320x1_S8x320x1024_2_0_0_2.window (ix3 b t e) 1 = e.val := rfl
  rw [i0, i1, w0, w1]
  show ((C (ix3 b t 0)).toInt + ((0 : Nat) : Int) = (r.val : Int) ∧ 0 + (e.val : Int) = (c.val : Int)) ↔ _
  rw [Fin.ext_iff]
  omega

/-- The reference's accumulation of the weighted rows. -/
def addBack3 (O : FVec Ideal S8x5120x64 .f32) (w : FVec Ideal S8x320 .f32) (J : IVec S8x320 32) : FVec Ideal S2048x1024 .f32 :=
  Host.scatterAdd Cert.ReferenceIdeal.scatter_S2048x1024_S8x320x1_S8x320x1024_2_0_0_2 (broadcastInDim Cert.ReferenceIdeal.S2048x1024 ![] Cert.ReferenceIdeal.Gen.bcast_S_S2048x1024 (constant Cert.ReferenceIdeal.S_ .f32 0x00000000#32)) (col3 J)
    (mulf (shapeCast _ O Cert.ReferenceIdeal.Gen.shapeCasts_S8x5120x64_S8x320x1024) (broadcastInDim Cert.ReferenceIdeal.S8x320x1024 ![0, 1, 2] Cert.ReferenceIdeal.Gen.bcast_S8x320x1_S8x320x1024_0_1_2 (broadcastInDim Cert.ReferenceIdeal.S8x320x1 ![0, 1] Cert.ReferenceIdeal.Gen.bcast_S8x320_S8x320x1_0_1 w)))

/-- Adding the weighted rows back in one line or timeline by timeline is the same. -/
theorem addBack_eq (O : FVec Ideal S8x5120x64 .f32) (w : FVec Ideal S8x320 .f32) (J : IVec S8x320 32) :
    addBack O w (shapeCast _ J shapeCasts_S8x320_S2560) = addBack3 O w J := by
  have hcol : ∀ p : Fin 2560, col (shapeCast _ J shapeCasts_S8x320_S2560) (ix2 p 0) = col3 J (ix3 ⟨p.val / 320, by omega⟩ ⟨p.val % 320, by omega⟩ 0) := by
    intro p
    unfold col col3
    pointwise
  unfold addBack addBack3 Host.scatterAdd
  rw [Ideal.hostScatterAdd_def, Ideal.hostScatterAdd_def]
  unfold Ideal.hostScatterAdd
  funext y
  obtain ⟨r, c, rfl⟩ : ∃ (r : Fin 2048) (c : Fin 1024), y = ix2 r c := ⟨y 0, y 1, by blk_ext⟩
  refine congrArg₂ (· + ·) rfl ?_
  refine Finset.sum_bij' (fun q _ => (ix3 ⟨(q 0).val / 320, by have := (q 0).isLt; change (q 0).val < 2560 at this; omega⟩ ⟨(q 0).val % 320, by omega⟩ (q 1) : Cert.ReferenceIdeal.S8x320x1024.Idx))
    (fun q _ => (ix2 ⟨(q 0).val * 320 + (q 1).val, by have := (q 0).isLt; have := (q 1).isLt; change (q 0).val < 8 at *; change (q 1).val < 320 at *; omega⟩ (q 2) : S2560x1024.Idx)) ?_ ?_ ?_ ?_ ?_
  · intro q hq
    obtain ⟨p, e, rfl⟩ : ∃ (p : Fin 2560) (e : Fin 1024), q = ix2 p e := ⟨q 0, q 1, by blk_ext⟩
    rw [Finset.mem_filter] at hq ⊢
    refine ⟨Finset.mem_univ _, ?_⟩
    have := (lands2 _ p e r c).1 hq.2
    rw [hcol] at this
    exact (lands3 _ _ _ e r c).2 this
  · intro q hq
    obtain ⟨b, t, e, rfl⟩ : ∃ (b : Fin 8) (t : Fin 320) (e : Fin 1024), q = ix3 b t e := ⟨q 0, q 1, q 2, by blk_ext⟩
    rw [Finset.mem_filter] at hq ⊢
    refine ⟨Finset.mem_univ _, ?_⟩
    have := (lands3 _ b t e r c).1 hq.2
    refine (lands2 _ _ e r c).2 ?_
    rw [hcol]
    have e1 : (⟨(b.val * 320 + t.val) / 320, by omega⟩ : Fin 8) = b := Fin.ext (by show (b.val * 320 + t.val) / 320 = b.val; omega)
    have e2 : (⟨(b.val * 320 + t.val) % 320, by omega⟩ : Fin 320) = t := Fin.ext (by show (b.val * 320 + t.val) % 320 = t.val; omega)
    have e3 : (ix3 (⟨(b.val * 320 + t.val) / 320, by omega⟩ : Fin 8) (⟨(b.val * 320 + t.val) % 320, by omega⟩ : Fin 320) (0 : Fin 1) : Cert.ReferenceIdeal.S8x320x1.Idx) = ix3 b t 0 := by rw [e1, e2]
    exact ⟨(congrArg (fun q => (col3 J q).toInt) e3).trans this.1, this.2⟩
  · intro q hq
    obtain ⟨p, e, rfl⟩ : ∃ (p : Fin 2560) (e : Fin 1024), q = ix2 p e := ⟨q 0, q 1, by blk_ext⟩
    funext a
    match a with
    | ⟨0, _⟩ => exact Fin.ext (by show p.val / 320 * 320 + p.val % 320 = p.val; omega)
    | ⟨1, _⟩ => rfl
  · intro q hq
    obtain ⟨b, t, e, rfl⟩ : ∃ (b : Fin 8) (t : Fin 320) (e : Fin 1024), q = ix3 b t e := ⟨q 0, q 1, q 2, by blk_ext⟩
    funext a
    have := t.isLt
    match a with
    | ⟨0, _⟩ => exact Fin.ext (by show (b.val * 320 + t.val) / 320 = b.val; omega)
    | ⟨1, _⟩ => exact Fin.ext (by show (b.val * 320 + t.val) % 320 = t.val; omega)
    | ⟨2, _⟩ => rfl
  · intro q hq
    obtain ⟨p, e, rfl⟩ : ∃ (p : Fin 2560) (e : Fin 1024), q = ix2 p e := ⟨q 0, q 1, by blk_ext⟩
    clear hq
    show _ = mulf _ _ (ix3 (⟨p.val / 320, by omega⟩ : Fin 8) (⟨p.val % 320, by omega⟩ : Fin 320) e)
    pointwise

end Cert.KernelIdeal.Own
-- ==== Proof.Heads.lean ====
module

public import proofs.«01_k».proof.Proof.Rows

@[expose] public section

set_option maxRecDepth 16384

noncomputable section

namespace Cert.KernelIdeal.Own

open Idealize.ShloMosaic Idealize.ShloMosaic.TcCoe Idealize.SL.Sem
open Cert.KernelIdeal Cert.KernelIdeal.Gen

/-- An array of heads turned by its angles, as the reference writes it. -/
def rope4 (T : FVec Ideal Cert.ReferenceIdeal.S8x320x16x64 .f32) (C D : FVec Ideal Cert.ReferenceIdeal.S1x320x1x64 .f32) : FVec Ideal Cert.ReferenceIdeal.S8x320x16x64 .f32 :=
  addf (mulf T (broadcastInDim Cert.ReferenceIdeal.S8x320x16x64 ![0, 1, 2, 3] Cert.ReferenceIdeal.Gen.bcast_S1x320x1x64_S8x320x16x64_0_1_2_3 C)) (mulf (concatenate Cert.ReferenceIdeal.S8x320x16x64 3 [⟨Cert.ReferenceIdeal.S8x320x16x32, (Host.negf (extractStridedSlice Cert.ReferenceIdeal.S8x320x16x32 ![0, 0, 0, 32] T Cert.ReferenceIdeal.Gen.slices_S8x320x16x64_S8x320x16x32_0_0_0_32))⟩, ⟨Cert.ReferenceIdeal.S8x320x16x32, (extractStridedSlice Cert.ReferenceIdeal.S8x320x16x32 ![0, 0, 0, 0] T Cert.ReferenceIdeal.Gen.slices_S8x320x16x64_S8x320x16x32_0_0_0_0)⟩] Cert.ReferenceIdeal.Gen.concatenates_S8x320x16x32_S8x320x16x32_S8x320x16x64_d3) (broadcastInDim Cert.ReferenceIdeal.S8x320x16x64 ![0, 1, 2, 3] Cert.ReferenceIdeal.Gen.bcast_S1x320x1x64_S8x320x16x64_0_1_2_3 D))

/-- A table of positions, as the reference spreads it. -/
def spread (T : FVec Ideal S320x64 .f32) : FVec Ideal Cert.ReferenceIdeal.S1x320x1x64 .f32 :=
  broadcastInDim Cert.ReferenceIdeal.S1x320x1x64 ![1, 3] Cert.ReferenceIdeal.Gen.bcast_S320x64_S1x320x1x64_1_3 T

/-- The positions and heads of a timeline as one list of rows. -/
def rowsOf (T : FVec Ideal Cert.ReferenceIdeal.S8x320x16x64 .f32) : FVec Ideal S8x5120x64 .f32 :=
  shapeCast Cert.ReferenceIdeal.S8x5120x64 T Cert.ReferenceIdeal.Gen.shapeCasts_S8x320x16x64_S8x5120x64

/-- Row `p` of the list is position `p / 16`, head `p % 16`. -/
theorem rowsOf_at (T : FVec Ideal Cert.ReferenceIdeal.S8x320x16x64 .f32) (b : Fin 8) (p : Fin 5120) (d : Fin 64) :
    rowsOf T (ix3 b p d) = T (ix4 b (⟨p.val / 16, by omega⟩ : Fin 320) (⟨p.val % 16, by omega⟩ : Fin 16) d) := by
  unfold rowsOf
  pointwise

/-- Row `p` of a repeated table is the table's row `p / 16`. -/
theorem perHead_at (T : FVec Ideal S320x64 .f32) (p : Fin 5120) (d : Fin 64) :
    perHead T (ix2 p d) = T (ix2 (⟨p.val / 16, by omega⟩ : Fin 320) d) := by
  unfold perHead
  pointwise

/-- The turned array of heads, at an element. -/
theorem rope4_at (T : FVec Ideal Cert.ReferenceIdeal.S8x320x16x64 .f32) (C S : FVec Ideal S320x64 .f32) (b : Fin 8) (t : Fin 320) (h : Fin 16) (d : Fin 64) :
    rope4 T (spread C) (spread S) (ix4 b t h d) = (T (ix4 b t h d) * C (ix2 t d) + rot (fun d => T (ix4 b t h d)) d * S (ix2 t d) : EReal) := by
  have hd := d.isLt
  pointwise [rope4, spread]
  unfold rot
  by_cases hlt : d.val < 32
  · simp [hlt, zero_sub]
  · simp [hlt]

/-- Turning the heads before or after their rows are put in one list is the same. -/
theorem rope_eq (T : FVec Ideal Cert.ReferenceIdeal.S8x320x16x64 .f32) (C S : FVec Ideal S320x64 .f32) :
    rowsOf (rope4 T (spread C) (spread S)) = roped (rowsOf T) (perHead C) (perHead S) := by
  funext y
  obtain ⟨b, p, d, rfl⟩ : ∃ (b : Fin 8) (p : Fin 5120) (d : Fin 64), y = ix3 b p d := ⟨y 0, y 1, y 2, by blk_ext⟩
  rw [rowsOf_at, rope4_at]
  show _ = (rowsOf T (ix3 b p d) * perHead C (ix2 p d) + rot (fun d => rowsOf T (ix3 b p d)) d * perHead S (ix2 p d) : EReal)
  simp only [rowsOf_at, perHead_at]

/-- The rows of a product as heads. -/
def headed (X : FVec Ideal S2048x1024 .f32) : FVec Ideal Cert.ReferenceIdeal.S2048x16x64 .f32 :=
  shapeCast _ X Cert.ReferenceIdeal.Gen.shapeCasts_S2048x1024_S2048x16x64

/-- Element `d` of head `h` is column `64 h + d` of the row. -/
theorem headed_at (X : FVec Ideal S2048x1024 .f32) (k : Fin 2048) (h : Fin 16) (d : Fin 64) :
    headed X (ix3 k h d) = X (ix2 k (⟨h.val * 64 + d.val, by omega⟩ : Fin 1024)) := by
  unfold headed
  pointwise

/-- The list of heads of the chosen rows, at an element. -/
theorem heads_at (X : FVec Ideal S2048x1024 .f32) (I : IVec S2560 32) (b : Fin 8) (p : Fin 5120) (d : Fin 64) :
    shapeCast S8x5120x64 (takeRows X I) shapeCasts_S2560x1024_S8x5120x64 (ix3 b p d)
      = takeRows X I (ix2 (⟨b.val * 320 + p.val / 16, by omega⟩ : Fin 2560) (⟨p.val % 16 * 64 + d.val, by omega⟩ : Fin 1024)) := by
  generalize takeRows X I = Y
  pointwise

/-- The chosen rows of a product, as heads in one list, are the reference's. -/
theorem heads_eq (x : FVec Ideal S1x2048x1024 .f32) (a : FVec Ideal S1024x1024 .f32) (S : FVec Ideal S2048x8 .f32) :
    heads x a (flatIdx S) = rowsOf (take4 (headed (prod (mat x) (flip a))) (topOf S).2) := by
  funext y
  obtain ⟨b, p, d, rfl⟩ : ∃ (b : Fin 8) (p : Fin 5120) (d : Fin 64), y = ix3 b p d := ⟨y 0, y 1, y 2, by blk_ext⟩
  have hb := b.isLt
  have hp := p.isLt
  unfold heads
  rw [heads_at, rowsOf_at, take4_at _ _ _ _ _ _ (rowOf S b ⟨p.val / 16, by omega⟩) (rowOf_spec S _ _), headed_at]
  refine takeRows_at _ _ _ _ _ ?_
  rw [flatIdx_at]
  have e1 : (⟨(b.val * 320 + p.val / 16) / 320, by omega⟩ : Fin 8) = b := Fin.ext (by show (b.val * 320 + p.val / 16) / 320 = b.val; omega)
  have e2 : (⟨(b.val * 320 + p.val / 16) % 320, by omega⟩ : Fin 320) = ⟨p.val / 16, by omega⟩ := Fin.ext (by show (b.val * 320 + p.val / 16) % 320 = p.val / 16; omega)
  show BitVec.ofNat 32 (rowOf S (⟨(b.val * 320 + p.val / 16) / 320, _⟩ : Fin 8) (⟨(b.val * 320 + p.val / 16) % 320, _⟩ : Fin 320)).val = _
  rw [e1, e2]

/-- Every head of a chosen row is an element of the product. -/
theorem heads_mem (x : FVec Ideal S1x2048x1024 .f32) (a : FVec Ideal S1024x1024 .f32) (S : FVec Ideal S2048x8 .f32) (y : S8x5120x64.Idx) :
    ∃ z, heads x a (flatIdx S) y = prod (mat x) (flip a) z := by
  obtain ⟨b, p, d, rfl⟩ : ∃ (b : Fin 8) (p : Fin 5120) (d : Fin 64), y = ix3 b p d := ⟨y 0, y 1, y 2, by blk_ext⟩
  unfold heads
  rw [heads_at]
  exact ⟨_, takeRows_at _ _ _ _ _ (flatIdx_at S _)⟩

end Cert.KernelIdeal.Own
-- ==== Proof.Softmax.lean ====
module

public import Idealize.ShloMosaic.PureOps.Ideal.Laws
public import Mathlib.Data.EReal.Inv

@[expose] public section

noncomputable section

namespace Cert.KernelIdeal.Own

open Idealize.ShloMosaic

/-- An extended real that is a real number. -/
def IsR (x : EReal) : Prop := ∃ r : ℝ, x = (r : EReal)

/-- A real number is one. -/
theorem isR_coe (r : ℝ) : IsR (r : EReal) := ⟨r, rfl⟩
/-- Zero is a real number. -/
theorem isR_zero : IsR 0 := ⟨0, rfl⟩
/-- Sums of reals are real. -/
theorem IsR.add {x y : EReal} (hx : IsR x) (hy : IsR y) : IsR (x + y) := by
  obtain ⟨a, rfl⟩ := hx; obtain ⟨b, rfl⟩ := hy; exact ⟨a + b, (EReal.coe_add a b).symm⟩
/-- Products of reals are real. -/
theorem IsR.mul {x y : EReal} (hx : IsR x) (hy : IsR y) : IsR (x * y) := by
  obtain ⟨a, rfl⟩ := hx; obtain ⟨b, rfl⟩ := hy; exact ⟨a * b, (EReal.coe_mul a b).symm⟩
/-- Differences of reals are real. -/
theorem IsR.sub {x y : EReal} (hx : IsR x) (hy : IsR y) : IsR (x - y) := by
  obtain ⟨a, rfl⟩ := hx; obtain ⟨b, rfl⟩ := hy; exact ⟨a - b, (EReal.coe_sub a b).symm⟩
/-- Negatives of reals are real. -/
theorem IsR.neg {x : EReal} (hx : IsR x) : IsR (-x) := by
  obtain ⟨a, rfl⟩ := hx; exact ⟨-a, (EReal.coe_neg a).symm⟩
/-- Finite sums of reals are real. -/
theorem isR_sum {ι : Type} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
/-- An extended real between two reals is real. -/
theorem isR_of_bounds {x y z : EReal} (hx : IsR x) (hz : IsR z) (h₁ : x ≤ y) (h₂ : y ≤ z) : IsR y := by
  obtain ⟨a, rfl⟩ := hx; obtain ⟨b, rfl⟩ := hz
  induction y using EReal.rec with
  | bot => exact absurd h₁ (by simp)
  | top => exact absurd h₂ (by simp)
  | coe r => exact ⟨r, rfl⟩
/-- An extended real that is neither infinity is real. -/
theorem isR_of_ne {x : EReal} (h₁ : x ≠ ⊥) (h₂ : x ≠ ⊤) : IsR x := by
  induction x using EReal.rec with
  | bot => exact absurd rfl h₁
  | top => exact absurd rfl h₂
  | coe r => exact ⟨r, rfl⟩
/-- An extended real whose size is below infinity is real. -/
theorem isR_of_abs_lt {x : EReal} (h : max x (-x) < ⊤) : IsR x := by
  refine isR_of_ne (fun e => ?_) (fun e => ?_) <;> subst e <;> simp at h
/-- The larger of two reals is real. -/
theorem IsR.max {x y : EReal} (hx : IsR x) (hy : IsR y) : IsR (Max.max x y) := by
  rcases max_choice x y with h | h <;> rw [h] <;> assumption
/-- A real is not minus infinity. -/
theorem IsR.ne_bot {x : EReal} (h : IsR x) : x ≠ ⊥ := by obtain ⟨a, rfl⟩ := h; simp
/-- A real is not infinity. -/
theorem IsR.ne_top {x : EReal} (h : IsR x) : x ≠ ⊤ := by obtain ⟨a, rfl⟩ := h; simp
/-- The root of a real that is not negative is real. -/
theorem isR_sqrt {x : EReal} (h : IsR x) (h0 : 0 ≤ x) : IsR (Ideal.sqrt x) := by
  obtain ⟨a, rfl⟩ := h
  have : ¬ a < 0 := not_lt.2 (EReal.coe_nonneg.1 h0)
  exact ⟨Real.sqrt a, (if_neg this : (if a < 0 then (⊥ : EReal) else (Real.sqrt a : EReal)) = _)⟩
/-- Sine and cosine of a real are real. -/
theorem isR_cos {x : EReal} (h : IsR x) : IsR (Ideal.cos x) := by
  obtain ⟨a, rfl⟩ := h; exact ⟨Real.cos a, rfl⟩
/-- The sine of a real is real. -/
theorem isR_sin {x : EReal} (h : IsR x) : IsR (Ideal.sin x) := by
  obtain ⟨a, rfl⟩ := h; exact ⟨Real.sin a, rfl⟩
/-- The square of a real is not negative. -/
theorem IsR.sq_nonneg {x : EReal} (h : IsR x) : 0 ≤ x * x := by
  obtain ⟨a, rfl⟩ := h
  rw [← EReal.coe_mul]
  exact EReal.coe_nonneg.2 (mul_self_nonneg a)

/-- A nonnegative real factor distributes over a finite sum of extended reals. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha, ← ih]
    exact EReal.left_distrib_of_nonneg_of_ne_top (EReal.coe_nonneg.2 hc) (EReal.coe_ne_top c) _ _

/-- A finite sum of reals, as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Division by a positive real is multiplication by its inverse. -/
theorem div_coe_pos (x : EReal) (c : ℝ) (hc : 0 < c) : Ideal.div x (c : EReal) = (c⁻¹ : ℝ) * x := by
  have : (c : EReal) ≠ 0 := by
    intro h
    exact hc.ne' (EReal.coe_eq_zero.1 h)
  unfold Ideal.div
  rw [if_neg this, EReal.coe_inv, mul_comm]

/-- A weighted sum divided by the total weight is the sum by the divided weights. -/
theorem div_weighted {n : ℕ} (u : Fin n → ℝ) (v : Fin n → EReal) (hU : 0 < ∑ j, u j) :
    Ideal.div (∑ j, (u j : EReal) * v j) (∑ j, (u j : EReal))
      = ∑ j, ((u j / ∑ i, u i : ℝ) : EReal) * v j := by
  rw [← coe_sum, div_coe_pos _ _ hU, coe_mul_sum _ (inv_nonneg.2 hU.le)]
  refine Finset.sum_congr rfl fun j _ => ?_
  rw [← mul_assoc, ← EReal.coe_mul, div_eq_inv_mul]

/-- The exponential of a real is the real exponential. -/
theorem exp_real (r : ℝ) : Ideal.exp (r : EReal) = (Real.exp r : EReal) := rfl
/-- The exponential of minus infinity is zero. -/
theorem exp_bot : Ideal.exp ⊥ = 0 := rfl

/-- The exponential of a kept score less a real shift, zero where the score is not kept, as a real. -/
theorem exp_kept (p : Prop) [Decidable p] (s m : ℝ) :
    Ideal.exp ((if p then (s : EReal) else ⊥) - (m : EReal)) = ((if p then Real.exp s * Real.exp (-m) else 0 : ℝ) : EReal) := by
  by_cases h : p
  · rw [if_pos h, if_pos h, ← EReal.coe_sub, exp_real, sub_eq_add_neg, Real.exp_add]
  · rw [if_neg h, if_neg h, EReal.bot_sub, exp_bot]; rfl

/-- SOFTMAX DOES NOT SEE THE SHIFT: the sum weighted by the exponentials of the kept scores less any real `m`, divided by the
    total of those exponentials, is the sum weighted by the normalized exponentials of the kept scores less any other real `M`. -/
theorem softmax_shift {n : ℕ} (keep : Fin n → Prop) [DecidablePred keep] (s : Fin n → ℝ) (v : Fin n → EReal) (m M : ℝ)
    (j₀ : Fin n) (h₀ : keep j₀) :
    Ideal.div (∑ j, Ideal.exp ((if keep j then (s j : EReal) else ⊥) - (m : EReal)) * v j)
        (∑ j, Ideal.exp ((if keep j then (s j : EReal) else ⊥) - (m : EReal)))
      = ∑ j, Ideal.div (Ideal.exp ((if keep j then (s j : EReal) else ⊥) - (M : EReal)))
          (∑ i, Ideal.exp ((if keep i then (s i : EReal) else ⊥) - (M : EReal))) * v j := by
  simp only [exp_kept]
  have pos : ∀ a : ℝ, 0 < ∑ j, (if keep j then Real.exp (s j) * Real.exp (-a) else 0 : ℝ) := fun a =>
    Finset.sum_pos' (fun j _ => by split <;> positivity) ⟨j₀, Finset.mem_univ _, by rw [if_pos h₀]; positivity⟩
  have pull : ∀ (a : ℝ) (j : Fin n), (if keep j then Real.exp (s j) * Real.exp (-a) else 0 : ℝ)
      = (if keep j then Real.exp (s j) else 0) * Real.exp (-a) := fun a j => by split <;> simp
  rw [div_weighted _ _ (pos m)]
  refine Finset.sum_congr rfl fun j _ => ?_
  congr 1
  rw [← coe_sum, div_coe_pos _ _ (pos M), ← EReal.coe_mul]
  congr 1
  simp only [pull, ← Finset.sum_mul]
  have e1 := (Real.exp_pos (-m)).ne'
  have e2 := (Real.exp_pos (-M)).ne'
  have p := pos m
  simp only [pull, ← Finset.sum_mul] at p
  have e3 : (∑ j, (if keep j then Real.exp (s j) else 0 : ℝ)) ≠ 0 := fun h => by rw [h, zero_mul] at p; exact lt_irrefl _ p
  field_simp

/-- The largest of finitely many terms, each real or minus infinity and one real, is real. -/
theorem isR_sup {n : ℕ} (f : Fin n → EReal) (h : ∀ j, f j = ⊥ ∨ IsR (f j)) (j₀ : Fin n) (h₀ : IsR (f j₀)) :
    IsR (Finset.univ.sup f) := by
  refine isR_of_ne (fun e => h₀.ne_bot (le_bot_iff.1 (e ▸ Finset.le_sup (Finset.mem_univ j₀)))) fun e => ?_
  obtain ⟨j, _, hj⟩ := Finset.exists_mem_eq_sup Finset.univ ⟨j₀, Finset.mem_univ _⟩ f
  rw [hj] at e
  rcases h j with h | h
  · rw [h] at e; exact absurd e (by simp)
  · exact h.ne_top e

end Cert.KernelIdeal.Own
-- ==== Proof.Attend.lean ====
module

public import proofs.«01_k».proof.Proof.Flash
public import proofs.«01_k».proof.Proof.Softmax
public import Idealize.ShloMosaic.Lib.WordCmp
public import proofs.«01_k».proof.Proof.Gen.ReferenceIdeal.Run

@[expose] public section

set_option maxRecDepth 16384

noncomputable section

namespace Cert.KernelIdeal.Own

open Idealize.ShloMosaic Idealize.ShloMosaic.TcCoe Idealize.SL.Sem
open Cert.KernelIdeal Cert.KernelIdeal.Gen

/-- The reference's scores, those of later columns at minus infinity. -/
def masked (Q K : FVec Ideal S8x5120x64 .f32) : FVec Ideal Cert.ReferenceIdeal.S8x5120x5120 .f32 :=
  select (broadcastInDim Cert.ReferenceIdeal.S8x5120x5120 ![0, 1, 2] Cert.ReferenceIdeal.Gen.bcast_S1x5120x5120_S8x5120x5120_0_1_2 (broadcastInDim Cert.ReferenceIdeal.S1x5120x5120 ![1, 2] Cert.ReferenceIdeal.Gen.bcast_S5120x5120_S1x5120x5120_1_2
      (select (cmpi .sge (addi (iotaInDim Cert.ReferenceIdeal.S5120x5120 32 0) (broadcastInDim Cert.ReferenceIdeal.S5120x5120 ![] Cert.ReferenceIdeal.Gen.bcast_S_S5120x5120 (constantI Cert.ReferenceIdeal.S_ 32 0#32))) (iotaInDim Cert.ReferenceIdeal.S5120x5120 32 1))
        (broadcastInDim Cert.ReferenceIdeal.S5120x5120 ![] Cert.ReferenceIdeal.Gen.bcast_S_S5120x5120 (constantI Cert.ReferenceIdeal.S_ 1 1#1)) (broadcastInDim Cert.ReferenceIdeal.S5120x5120 ![] Cert.ReferenceIdeal.Gen.bcast_S_S5120x5120 (constantI Cert.ReferenceIdeal.S_ 1 0#1)))))
    (mulf (Host.dotGeneral Cert.ReferenceIdeal.dot_S8x5120x64_S8x5120x64_S8x5120x5120_2_2_1_1_0_0 none Q K) (broadcastInDim Cert.ReferenceIdeal.S8x5120x5120 ![] Cert.ReferenceIdeal.Gen.bcast_S_S8x5120x5120 (constant Cert.ReferenceIdeal.S_ .f32 0x3E000000#32)))
    (broadcastInDim Cert.ReferenceIdeal.S8x5120x5120 ![] Cert.ReferenceIdeal.Gen.bcast_S_S8x5120x5120 (id (constant Cert.ReferenceIdeal.S_ .f32 0xFF800000#32)))

/-- The exponentials of an array of scores, each less its row's `R` (a number not below minus infinity). -/
def expoWith (R : FVec Ideal Cert.ReferenceIdeal.S8x5120 .f32) (M : FVec Ideal Cert.ReferenceIdeal.S8x5120x5120 .f32) : FVec Ideal Cert.ReferenceIdeal.S8x5120x5120 .f32 :=
  Host.exp (subf M (broadcastInDim Cert.ReferenceIdeal.S8x5120x5120 ![0, 1, 2] Cert.ReferenceIdeal.Gen.bcast_S8x5120x1_S8x5120x5120_0_1_2 (broadcastInDim Cert.ReferenceIdeal.S8x5120x1 ![0, 1] Cert.ReferenceIdeal.Gen.bcast_S8x5120_S8x5120x1_0_1
    (maximumf (broadcastInDim Cert.ReferenceIdeal.S8x5120 ![] Cert.ReferenceIdeal.Gen.bcast_S_S8x5120 (constant Cert.ReferenceIdeal.S_ .f32 0xFF800000#32)) R))))

/-- The exponentials of an array of scores, each less its row's greatest. -/
def expo (M : FVec Ideal Cert.ReferenceIdeal.S8x5120x5120 .f32) : FVec Ideal Cert.ReferenceIdeal.S8x5120x5120 .f32 :=
  expoWith (Host.reduce FloatOps.maximumf M (constant Cert.ReferenceIdeal.S_ .f32 0xFF800000#32) Cert.ReferenceIdeal.Gen.reducesTo_S8x5120x5120_S8x5120_d2 Cert.ReferenceIdeal.Gen.h_S_) M

/-- Exponentials divided by their row's sum, times the values. -/
def weighted (X : FVec Ideal Cert.ReferenceIdeal.S8x5120x5120 .f32) (v : FVec Ideal S8x5120x64 .f32) : FVec Ideal S8x5120x64 .f32 :=
  Host.dotGeneral Cert.ReferenceIdeal.dot_S8x5120x5120_S8x5120x64_S8x5120x64_2_1_1_2_0_0 none (Host.divf X (broadcastInDim Cert.ReferenceIdeal.S8x5120x5120 ![0, 1, 2] Cert.ReferenceIdeal.Gen.bcast_S8x5120x1_S8x5120x5120_0_1_2
    (broadcastInDim Cert.ReferenceIdeal.S8x5120x1 ![0, 1] Cert.ReferenceIdeal.Gen.bcast_S8x5120_S8x5120x1_0_1 (Host.reduceAdd X (constant Cert.ReferenceIdeal.S_ .f32 0x00000000#32) Cert.ReferenceIdeal.Gen.reducesTo_S8x5120x5120_S8x5120_d2 Cert.ReferenceIdeal.Gen.h_S_)))) v

/-- The word of minus infinity is minus infinity. -/
theorem negInf : Ideal.ofBits FTy.f32 0xFF800000#32 = ⊥ := by simp [Ideal.ofBits, Ideal.ieee]
/-- The scale of the scores, 1/8, is a real number. -/
theorem c8_real : IsR c8 := ⟨1 / 8, by
  simp [c8, Ideal.ofBits, Ideal.ieee]
  rw [← EReal.coe_mul]
  norm_num⟩

/-- The reference's masked score, at an element. -/
theorem masked_at (Q K : FVec Ideal S8x5120x64 .f32) (b : Fin 8) (r j : Fin 5120) :
    masked Q K (ix3 b r j) = if j.val ≤ r.val then (∑ d : Fin 64, (Q (ix3 b r d) : EReal) * K (ix3 b j d)) * c8 else ⊥ := by
  have hr := r.isLt
  have hj := j.isLt
  have key : IntOp.cmpi .sge (BitVec.ofNat 32 r.val + 0#32) (BitVec.ofNat 32 j.val) = BitVec.ofBool (decide (j.val ≤ r.val)) := by
    rw [BitVec.add_zero]
    exact WordCmp.cmpi_sge_ofNat (by omega) (by omega)
  pointwise [masked]
  show Scalar.select (Scalar.select (IntOp.cmpi .sge (BitVec.ofNat 32 r.val + 0#32) (BitVec.ofNat 32 j.val)) 1#1 0#1)
      ((∑ x : Fin 64, Q (ix3 b r x) * K (ix3 b j x) : EReal) * c8) (Ideal.ofBits FTy.f32 0xFF800000#32) = _
  rw [negInf, key, WordCmp.select_ofBool]
  by_cases h : j.val ≤ r.val
  · simp [h, Scalar.select]
  · simp [h, Scalar.select]

/-- The greatest of each row of an array of any width. -/
theorem greatest_at {n k : ℕ} (M : FVec Ideal ⟨3, ![8, n, k]⟩ .f32) (h : (⟨3, ![8, n, k]⟩ : Shape).ReducesTo [2] (⟨2, ![8, n]⟩ : Shape)) (hu : 0 < S_.numel) (b : Fin 8) (r : Fin n) :
    Host.reduce FloatOps.maximumf M (constant S_ .f32 0xFF800000#32) h hu (ix2 b r) = Finset.univ.sup fun i : Fin k => (M (ix3 b r i) : EReal) := by
  have e : Host.reduce FloatOps.maximumf M (constant S_ .f32 0xFF800000#32) h hu (ix2 b r)
      = Finset.univ.fold max (Ideal.ofBits FTy.f32 0xFF800000#32) fun i : Fin k => (M (ix3 b r i) : EReal) := by
    simp only [pointwise]
  rw [e, negInf]
  rfl

/-- The exponentials, at an element, less a number not below minus infinity. -/
theorem expoWith_at (R : FVec Ideal Cert.ReferenceIdeal.S8x5120 .f32) (M : FVec Ideal Cert.ReferenceIdeal.S8x5120x5120 .f32) (b : Fin 8) (r j : Fin 5120) :
    expoWith R M (ix3 b r j) = Ideal.exp (M (ix3 b r j) - R (ix2 b r)) := by
  have e : expoWith R M (ix3 b r j) = Ideal.exp (M (ix3 b r j) - max (Ideal.ofBits FTy.f32 0xFF800000#32) (R (ix2 b r))) := by
    pointwise [expoWith]
  rw [e, negInf, max_eq_right bot_le]

/-- The exponentials, at an element. -/
theorem expo_at (M : FVec Ideal Cert.ReferenceIdeal.S8x5120x5120 .f32) (b : Fin 8) (r j : Fin 5120) :
    expo M (ix3 b r j) = Ideal.exp (M (ix3 b r j) - Finset.univ.sup fun i : Fin 5120 => (M (ix3 b r i) : EReal)) := by
  rw [← greatest_at (n := 5120) (k := 5120) M Cert.ReferenceIdeal.Gen.reducesTo_S8x5120x5120_S8x5120_d2 Cert.ReferenceIdeal.Gen.h_S_ b r]
  exact expoWith_at _ M b r j

/-- The weighted values, at an element. -/
theorem weighted_at (X : FVec Ideal Cert.ReferenceIdeal.S8x5120x5120 .f32) (v : FVec Ideal S8x5120x64 .f32) (b : Fin 8) (r : Fin 5120) (d : Fin 64) :
    weighted X v (ix3 b r d) = ∑ j : Fin 5120, Ideal.div (X (ix3 b r j)) (∑ i : Fin 5120, X (ix3 b r i) : EReal) * v (ix3 b j d) := by
  pointwise [weighted]

/-- A scale inside the products of a real score may be taken outside. -/
theorem scale_out (q k : Fin 64 → ℝ) : ∑ d, ((q d : EReal) * c8) * (k d : EReal) = (∑ d, (q d : EReal) * (k d : EReal)) * c8 := by
  obtain ⟨c, hc⟩ := c8_real
  rw [hc]
  have e1 : ∀ d, ((q d : EReal) * (c : EReal)) * (k d : EReal) = ((q d * c * k d : ℝ) : EReal) := fun d => by rw [EReal.coe_mul, EReal.coe_mul]
  have e2 : ∀ d, (q d : EReal) * (k d : EReal) = ((q d * k d : ℝ) : EReal) := fun d => (EReal.coe_mul _ _).symm
  simp only [e1, e2, ← coe_sum, ← EReal.coe_mul]
  refine congrArg _ ?_
  rw [Finset.sum_mul]
  exact Finset.sum_congr rfl fun d _ => by ring

/-- Attention with shifted scores is the reference's attention, wherever the queries, the keys and the key bound are real. -/
theorem shifted_eq (N : FVec Ideal S8x1x1 .f32) (Q K v : FVec Ideal S8x5120x64 .f32) (hQ : ∀ y, IsR (Q y)) (hK : ∀ y, IsR (K y))
    (hN : ∀ y, IsR (N y)) (hN0 : ∀ y, (0 : EReal) ≤ N y) : shifted N Q K v = weighted (expo (masked Q K)) v := by
  funext y
  obtain ⟨b, r, d, rfl⟩ : ∃ (b : Fin 8) (r : Fin 5120) (d : Fin 64), y = ix3 b r d := ⟨y 0, y 1, y 2, by blk_ext⟩
  rw [weighted_at]
  simp only [expo_at, masked_at]
  choose q hq using hQ
  choose k hk using hK
  -- the scores are real numbers
  have hs : ∀ j : Fin 5120, IsR (scoreOf Q K b r j) := fun j => isR_sum _ _ fun d _ => IsR.mul (IsR.mul ⟨_, hq _⟩ c8_real) ⟨_, hk _⟩
  choose s hs using hs
  have e1 : ∀ j : Fin 5120, (∑ d : Fin 64, (Q (ix3 b r d) : EReal) * K (ix3 b j d)) * c8 = (s j : EReal) := fun j => by
    rw [← hs j]
    unfold scoreOf
    simp only [hq, hk]
    exact (scale_out (fun d => q (ix3 b r d)) (fun d => k (ix3 b j d))).symm
  simp only [e1]
  -- so are the two shifts
  obtain ⟨m, hm⟩ : IsR (shiftOf N Q b r) := by
    have hn : (0 : EReal) ≤ ∑ d : Fin 64, Q (ix3 b r d) * Q (ix3 b r d) := Finset.sum_nonneg fun d _ => IsR.sq_nonneg ⟨_, hq _⟩
    refine IsR.add (IsR.mul (isR_sqrt (IsR.mul (isR_sum _ _ fun d _ => IsR.mul ⟨_, hq _⟩ ⟨_, hq _⟩) (hN _)) (mul_nonneg hn (hN0 _))) c8_real) ?_
    simp only [Ideal.ofBits, Ideal.ieee]
    norm_num
    exact IsR.mul ⟨12379400, rfl⟩ (isR_coe _)
  obtain ⟨M, hM⟩ : IsR (Finset.univ.sup fun i : Fin 5120 => (if i.val ≤ r.val then (s i : EReal) else ⊥)) :=
    isR_sup _ (fun j => by by_cases h : j.val ≤ r.val <;> simp [h, IsR]) r (by simp [IsR])
  rw [hM]
  have e2 : ∀ j : Fin 5120, (if j.val ≤ r.val then scoreOf Q K b r j else ⊥) = (if j.val ≤ r.val then (s j : EReal) else ⊥) := fun j => by rw [hs j]
  show Ideal.div (∑ j : Fin 5120, Ideal.exp ((if j.val ≤ r.val then scoreOf Q K b r j else ⊥) - shiftOf N Q b r) * v (ix3 b j d) : EReal)
    (∑ j : Fin 5120, Ideal.exp ((if j.val ≤ r.val then scoreOf Q K b r j else ⊥) - shiftOf N Q b r) : EReal) = _
  simp only [e2, hm]
  exact softmax_shift (fun j : Fin 5120 => j.val ≤ r.val) s (fun j => v (ix3 b j d)) m M r (le_refl _)

/-- The key bound is real and not negative where the keys are real. -/
theorem rowMax_real (K : FVec Ideal S8x5120x64 .f32) (hK : ∀ y, IsR (K y)) (y : S8x1x1.Idx) : IsR (rowMax K y) ∧ (0 : EReal) ≤ rowMax K y := by
  have hf : ∀ r : Fin 5120, IsR (∑ d : Fin 64, K (ix3 (y 0) r d) * K (ix3 (y 0) r d) : EReal) := fun r => isR_sum _ _ fun d _ => (hK _).mul (hK _)
  have e : rowMax K y = Finset.univ.sup fun r : Fin 5120 => (∑ d : Fin 64, K (ix3 (y 0) r d) * K (ix3 (y 0) r d) : EReal) := by
    unfold rowMax
    rw [negInf]
    rfl
  rw [e]
  refine ⟨isR_sup _ (fun r => Or.inr (hf r)) 0 (hf 0), ?_⟩
  refine le_trans ?_ (Finset.le_sup (f := fun r : Fin 5120 => (∑ d : Fin 64, K (ix3 (y 0) r d) * K (ix3 (y 0) r d) : EReal)) (Finset.mem_univ (0 : Fin 5120)))
  exact Finset.sum_nonneg fun d _ => (hK _).sq_nonneg

end Cert.KernelIdeal.Own
-- ==== Proof.Finite.lean ====
module

public import proofs.«01_k».proof.Proof.Heads
public import proofs.«01_k».proof.Proof.Attend
public import proofs.«01_k».proof.Proof.Gen.ReferenceIdeal
public import Idealize.ShloMosaic.Lib.ReduceAll
public import Idealize.ShloMosaic.Lib.Affine
public import proofs.«01_k».proof.Defs

@[expose] public section

set_option maxRecDepth 16384

noncomputable section

namespace Cert.KernelIdeal.Own

open Idealize.ShloMosaic Idealize.ShloMosaic.TcCoe Idealize.SL.Sem
open Cert.KernelIdeal Cert.KernelIdeal.Gen

/-- A quotient of a real number by a real number is real. -/
theorem isR_div {x y : EReal} (hx : IsR x) (hy : IsR y) (h0 : y ≠ 0) : IsR (Ideal.div x y) := by
  unfold Ideal.div
  rw [if_neg h0]
  obtain ⟨b, rfl⟩ := hy
  exact hx.mul ⟨b⁻¹, (EReal.coe_inv b).symm⟩

/-- A positive real to a real power is a real number other than zero. -/
theorem isR_pow {a : ℝ} (ha : 0 < a) {y : EReal} (hy : IsR y) : IsR (Ideal.pow (a : EReal) y) ∧ Ideal.pow (a : EReal) y ≠ 0 := by
  obtain ⟨b, rfl⟩ := hy
  refine ⟨⟨Real.rpow a b, rfl⟩, ?_⟩
  show ((Real.rpow a b : ℝ) : EReal) ≠ 0
  exact_mod_cast (Real.rpow_pos_of_pos ha b).ne'

/-- The angle of each position and frequency is a real number. -/
theorem half_real (y : S320x32.Idx) : IsR (half y) := by
  obtain ⟨n, j, rfl⟩ : ∃ (n : Fin 320) (j : Fin 32), y = ix2 n j := ⟨y 0, y 1, by blk_ext⟩
  have h64 : Ideal.ofBits FTy.f32 0x42800000#32 = ((64 : ℝ) : EReal) := by
    simp [Ideal.ofBits, Ideal.ieee] <;> rw [← EReal.coe_mul] <;> norm_num
  have h2 : Ideal.ofBits FTy.f32 0x40000000#32 = ((2 : ℝ) : EReal) := by
    simp [Ideal.ofBits, Ideal.ieee] <;> rw [← EReal.coe_mul] <;> norm_num
  have h10 : Ideal.ofBits FTy.f32 0x461C4000#32 = ((10000 : ℝ) : EReal) := by
    simp [Ideal.ofBits, Ideal.ieee] <;> rw [← EReal.coe_mul] <;> norm_num
  have hs : ∀ w : BitVec 32, IsR (FloatOps.sitofp (F := Ideal) FTy.f32 w) := fun w => ⟨_, rfl⟩
  pointwise [half]
  rw [h64, h2, h10]
  have hd : IsR (Ideal.div (((2 : ℝ) : EReal) * FloatOps.sitofp (F := Ideal) FTy.f32 (BitVec.ofNat 32 j.val)) ((64 : ℝ) : EReal)) :=
    isR_div ((isR_coe 2).mul (hs _)) (isR_coe 64) (by exact_mod_cast (by norm_num : (64 : ℝ) ≠ 0))
  have hp := isR_pow (by norm_num : (0 : ℝ) < 10000) hd
  exact (hs _).mul (isR_div ⟨1, rfl⟩ hp.1 hp.2)

/-- So are the angles with the frequencies twice. -/
theorem angles_real (y : S320x64.Idx) : IsR (angles y) := by
  obtain ⟨n, j, rfl⟩ : ∃ (n : Fin 320) (j : Fin 64), y = ix2 n j := ⟨y 0, y 1, by blk_ext⟩
  have hh := half_real
  unfold angles
  generalize half = H at hh ⊢
  pointwise
  split
  all_goals exact hh _

/-- A product of real matrices is real. -/
theorem prod_real (X : FVec Ideal S2048x1024 .f32) (W : FVec Ideal S1024x1024 .f32) (hX : ∀ y, IsR (X y)) (hW : ∀ y, IsR (W y)) (y : S2048x1024.Idx) : IsR (prod X W y) := by
  obtain ⟨i, j, rfl⟩ : ∃ (i : Fin 2048) (j : Fin 1024), y = ix2 i j := ⟨y 0, y 1, by blk_ext⟩
  have e : prod X W (ix2 i j) = (∑ k : Fin 1024, X (ix2 i k) * W (ix2 k j) : EReal) := by
    pointwise [prod]
  rw [e]
  exact isR_sum _ _ fun k _ => (hX _).mul (hW _)

/-- The heads of real inputs are real. -/
theorem heads_real (x : FVec Ideal S1x2048x1024 .f32) (a : FVec Ideal S1024x1024 .f32) (Sc : FVec Ideal S2048x8 .f32) (hx : ∀ y, IsR (x y)) (ha : ∀ y, IsR (a y)) (y : S8x5120x64.Idx) :
    IsR (heads x a (flatIdx Sc) y) := by
  obtain ⟨z, hz⟩ := heads_mem x a Sc y
  rw [hz]
  refine prod_real _ _ (fun y => ?_) (fun y => ?_) z
  · unfold mat shapeCast
    exact hx _
  · unfold flip transpose
    exact ha _

/-- Real rows turned by real angles are real. -/
theorem roped_real (K : FVec Ideal S8x5120x64 .f32) (C S : FVec Ideal S5120x64 .f32) (hK : ∀ y, IsR (K y)) (hC : ∀ y, IsR (C y)) (hS : ∀ y, IsR (S y)) (y : S8x5120x64.Idx) : IsR (roped K C S y) := by
  have hr : IsR (rot (fun d => K (ix3 (y 0) (y 1) d)) (y 2)) := by
    unfold rot
    split
    · exact isR_zero.sub (hK _)
    · exact hK _
  exact ((hK y).mul (hC _)).add (hr.mul (hS _))

/-- A real table repeated for the heads is real. -/
theorem table_real (T : FVec Ideal S320x64 .f32) (hT : ∀ y, IsR (T y)) (y : S5120x64.Idx) : IsR (perHead T y) := by
  obtain ⟨p, d, rfl⟩ : ∃ (p : Fin 5120) (d : Fin 64), y = ix2 p d := ⟨y 0, y 1, by blk_ext⟩
  rw [perHead_at]
  exact hT _

/-- The cosines are real. -/
theorem cos_real (y : S5120x64.Idx) : IsR (perHead (Host.cos angles) y) := table_real _ (fun y => isR_cos (angles_real y)) y
/-- The sines are real. -/
theorem sin_real (y : S5120x64.Idx) : IsR (perHead (Host.sin angles) y) := table_real _ (fun y => isR_sin (angles_real y)) y

/-- The turned heads of the chosen rows, as the reference writes them. -/
def turned (x : FVec Ideal S1x2048x1024 .f32) (a : FVec Ideal S1024x1024 .f32) (Sc : FVec Ideal S2048x8 .f32) : FVec Ideal S8x5120x64 .f32 :=
  rowsOf (rope4 (take4 (headed (prod (mat x) (flip a))) (topOf Sc).2) (spread (Host.cos angles)) (spread (Host.sin angles)))

/-- The reference's output, from the scores and the arguments. -/
def refOut (Sc : FVec Ideal S2048x8 .f32) (x : FVec Ideal S1x2048x1024 .f32) (a1 a2 a3 a4 : FVec Ideal S1024x1024 .f32) : FVec Ideal S1x2048x1024 .f32 :=
  broadcastInDim Cert.ReferenceIdeal.S1x2048x1024 ![1, 2] Cert.ReferenceIdeal.Gen.bcast_S2048x1024_S1x2048x1024_1_2
    (prod (addBack3 (weighted (expo (masked (turned x a1 Sc) (turned x a2 Sc))) (rowsOf (take4 (headed (prod (mat x) (flip a3))) (topOf Sc).2)))
      (weightsOf (topOf Sc).1) (topOf Sc).2) (flip a4))

/-- A batch of one added in front is the same by a change of shape or by a broadcast. -/
theorem front_eq (X : FVec Ideal S2048x1024 .f32) :
    shapeCast S1x2048x1024 X shapeCasts_S2048x1024_S1x2048x1024 = broadcastInDim Cert.ReferenceIdeal.S1x2048x1024 ![1, 2] Cert.ReferenceIdeal.Gen.bcast_S2048x1024_S1x2048x1024_1_2 X := by
  funext y
  obtain ⟨z, i, j, rfl⟩ : ∃ (z : Fin 1) (i : Fin 2048) (j : Fin 1024), y = ix3 z i j := ⟨y 0, y 1, y 2, by blk_ext⟩
  have e1 : shapeCast S1x2048x1024 X shapeCasts_S2048x1024_S1x2048x1024 (ix3 z i j) = X (ix2 i j) := by pointwise
  rw [e1]
  pointwise

/-- The kernel's attention is the reference's, where the input and the query and key weights are real. -/
theorem attn_eq (Sc : FVec Ideal S2048x8 .f32) (x : FVec Ideal S1x2048x1024 .f32) (a1 a2 a3 : FVec Ideal S1024x1024 .f32)
    (hx : ∀ y, IsR (x y)) (h1 : ∀ y, IsR (a1 y)) (h2 : ∀ y, IsR (a2 y)) :
    shifted (rowMax (heads x a2 (flatIdx Sc))) (roped (heads x a1 (flatIdx Sc)) (perHead (Host.cos angles)) (perHead (Host.sin angles)))
      (roped (heads x a2 (flatIdx Sc)) (perHead (Host.cos angles)) (perHead (Host.sin angles))) (heads x a3 (flatIdx Sc))
      = weighted (expo (masked (roped (heads x a1 (flatIdx Sc)) (perHead (Host.cos angles)) (perHead (Host.sin angles)))
          (roped (heads x a2 (flatIdx Sc)) (perHead (Host.cos angles)) (perHead (Host.sin angles))))) (heads x a3 (flatIdx Sc)) :=
  shifted_eq _ _ _ _ (roped_real _ _ _ (heads_real x a1 Sc hx h1) cos_real sin_real) (roped_real _ _ _ (heads_real x a2 Sc hx h2) cos_real sin_real)
    (fun y => (rowMax_real _ (heads_real x a2 Sc hx h2) y).1) (fun y => (rowMax_real _ (heads_real x a2 Sc hx h2) y).2)

/-- The turned heads of the two programs. -/
theorem turned_eq (Sc : FVec Ideal S2048x8 .f32) (x : FVec Ideal S1x2048x1024 .f32) (a : FVec Ideal S1024x1024 .f32) :
    roped (heads x a (flatIdx Sc)) (perHead (Host.cos angles)) (perHead (Host.sin angles)) = turned x a Sc := by
  rw [heads_eq]
  exact (rope_eq _ _ _).symm

/-- The reference's adding back and last product, from its attention. -/
theorem out_eq (O : FVec Ideal S8x5120x64 .f32) (w : FVec Ideal S8x320 .f32) (J : IVec S8x320 32) (a : FVec Ideal S1024x1024 .f32) :
    shapeCast S1x2048x1024 (prod (addBack O w (shapeCast _ J shapeCasts_S8x320_S2560)) (flip a)) shapeCasts_S2048x1024_S1x2048x1024
      = broadcastInDim Cert.ReferenceIdeal.S1x2048x1024 ![1, 2] Cert.ReferenceIdeal.Gen.bcast_S2048x1024_S1x2048x1024_1_2 (prod (addBack3 O w J) (flip a)) := by
  rw [addBack_eq]
  exact front_eq _

/-- The kernel's output is the reference's, where the input and the query and key weights are real. -/
theorem outOf_eq (Sc : FVec Ideal S2048x8 .f32) (x : FVec Ideal S1x2048x1024 .f32) (a1 a2 a3 a4 : FVec Ideal S1024x1024 .f32)
    (hx : ∀ y, IsR (x y)) (h1 : ∀ y, IsR (a1 y)) (h2 : ∀ y, IsR (a2 y)) : outOf Sc x a1 a2 a3 a4 = refOut Sc x a1 a2 a3 a4 := by
  have e := attn_eq Sc x a1 a2 a3 hx h1 h2
  rw [turned_eq, turned_eq] at e
  have e3 := heads_eq x a3 Sc
  unfold outOf refOut attn
  rw [turned_eq, turned_eq, e, e3]
  unfold flatIdx
  exact out_eq _ _ _ _

/-- The facts that the precondition states. -/
theorem preFacts : Cert.Pre_finite_inputs.Facts where
  bcast_S_S1x2048x1024 := by decide
  reducesTo_S1x2048x1024_S_d0_1_2 := by decide
  h_S_ := Cert.ReferenceIdeal.Gen.h_S_
  bcast_S_S1024x1024 := by decide
  reducesTo_S1024x1024_S_d0_1 := by decide

/-- What the precondition says: the input and the query and key weights are real. -/
theorem pre_real (x : FVec Ideal S1x2048x1024 .f32) (a1 a2 a3 a4 : FVec Ideal S1024x1024 .f32) (a5 : FVec Ideal S512x1024 .f32) (a6 : FVec Ideal S512 .f32)
    (a7 : FVec Ideal S8x512 .f32) (a8 : FVec Ideal S8 .f32) (h : @Cert.Pre_finite_inputs.fn preFacts Ideal _ x a1 a2 a3 a4 a5 a6 a7 a8 = fun _ => 1#1) :
    (∀ y, IsR (x y)) ∧ (∀ y, IsR (a1 y)) ∧ (∀ y, IsR (a2 y)) := by
  have h := congrFun h ix0
  unfold Cert.Pre_finite_inputs.fn at h
  obtain ⟨h12, h3⟩ := IntOp.andi_eq_one.1 h
  obtain ⟨h1, h2⟩ := IntOp.andi_eq_one.1 h12
  have key : ∀ r : EReal, FloatOps.cmpf (F := Ideal) (φ := .f32) .olt (max r (-r) : EReal) (Ideal.ofBits FTy.f32 0x7F800000#32) = 1#1 → IsR r := fun r e => by
    have ht : Ideal.ofBits FTy.f32 0x7F800000#32 = ⊤ := by simp [Ideal.ofBits, Ideal.ieee]
    rw [ht] at e
    refine isR_of_abs_lt ?_
    by_contra hc
    have e' : BitVec.ofBool (decide (max r (-r) < (⊤ : EReal))) = 1#1 := e
    rw [decide_eq_false hc] at e'
    exact absurd e' (by decide)
  exact ⟨fun y => key _ (Host.reduce_andi_all _ _ _ _ ix0 h1 y), fun y => key _ (Host.reduce_andi_all _ _ _ _ ix0 h2 y), fun y => key _ (Host.reduce_andi_all _ _ _ _ ix0 h3 y)⟩

end Cert.KernelIdeal.Own
-- ==== Proof.Scores.lean ====
module

public import proofs.«01_k».proof.Proof.Chain
public import Idealize.ShloMosaic.Lib.Routing.OpsSet
public import proofs.«01_k».proof.Proof.Gen.ReferenceIdeal.Run

@[expose] public section

set_option maxRecDepth 16384

noncomputable section

namespace Cert.KernelIdeal.Own

open Idealize.ShloMosaic Idealize.ShloMosaic.TcCoe Idealize.SL.Sem
open Cert.KernelIdeal Cert.KernelIdeal.Gen

open Idealize.ShloMosaic.Routing

/-- An entry of the padded weight in one of its first eight columns: the weight's own entry. -/
theorem padT_at (A : FVec Ideal S8x512 .f32) (k : Fin 512) (e : Fin 128) (he : e.val < 8) :
    padT A (ix2 k e) = A (ix2 ⟨e.val, he⟩ k) := by
  unfold padT
  pointwise
  have key : ∀ q : S8x512.Idx, scatter_S128x512_S1_S8x512_01_n_0_0.resultIdx? q (broadcastInDim S1 ![] bcast_S_S1 (constantI S_ 32 0#32)) = some (ix2 e k)
      ↔ (q 0).val = e.val ∧ (q 1).val = k.val := by
    intro q
    rw [resultIdx?_eq_some]
    refine Fin.forall_fin_two.trans ?_
    have s0 : scatter_S128x512_S1_S8x512_01_n_0_0.start q (broadcastInDim S1 ![] bcast_S_S1 (constantI S_ 32 0#32)) 0 = 0 := rfl
    have s1 : scatter_S128x512_S1_S8x512_01_n_0_0.start q (broadcastInDim S1 ![] bcast_S_S1 (constantI S_ 32 0#32)) 1 = 0 := rfl
    have w0 : scatter_S128x512_S1_S8x512_01_n_0_0.window q 0 = (q 0).val := rfl
    have w1 : scatter_S128x512_S1_S8x512_01_n_0_0.window q 1 = (q 1).val := rfl
    rw [s0, s1, w0, w1]
    show (0 + ((q 0).val : Int) = (e.val : Int) ∧ 0 + ((q 1).val : Int) = (k.val : Int)) ↔ _
    omega
  refine scatter_set_hit _ _ _ _ _ _ (fun q hq => ?_) (ix2 ⟨e.val, he⟩ k) ((key _).2 ⟨rfl, rfl⟩)
  obtain ⟨h0, h1⟩ := (key q).1 hq
  refine congrArg A (funext fun a => ?_)
  match a with
  | ⟨0, _⟩ => exact Fin.ext h0
  | ⟨1, _⟩ => exact Fin.ext h1

/-- An entry of the padded bias among its first eight: the bias's own entry. -/
theorem padRow_at (b : FVec Ideal S8 .f32) (e : Fin 128) (he : e.val < 8) : padRow b (ix2 0 e) = b (ix1 ⟨e.val, he⟩) := by
  unfold padRow
  pointwise
  have key : ∀ q : S8.Idx, scatter_S128_S1_S8_0_n_0_0.resultIdx? q (broadcastInDim S1 ![] bcast_S_S1 (constantI S_ 32 0#32)) = some (ix1 e)
      ↔ (q 0).val = e.val := by
    intro q
    rw [resultIdx?_eq_some]
    refine Fin.forall_fin_one.trans ?_
    have s0 : scatter_S128_S1_S8_0_n_0_0.start q (broadcastInDim S1 ![] bcast_S_S1 (constantI S_ 32 0#32)) 0 = 0 := rfl
    have w0 : scatter_S128_S1_S8_0_n_0_0.window q 0 = (q 0).val := rfl
    rw [s0, w0]
    show (0 + ((q 0).val : Int) = (e.val : Int)) ↔ _
    omega
  refine scatter_set_hit _ _ _ _ _ _ (fun q hq => ?_) (ix1 ⟨e.val, he⟩) ((key _).2 rfl)
  have h0 := (key q).1 hq
  refine congrArg b (funext fun a => ?_)
  match a with
  | ⟨0, _⟩ => exact Fin.ext h0

/-- The hidden layer is the reference's. -/
theorem hid_eq (U : Valuation Cert.ReferenceIdeal.τ Cert.ReferenceIdeal.sig (Elt Ideal)) :
    hid (U (Proc.devRef .tc Cert.ReferenceIdeal.main_arg0)) (U (Proc.devRef .tc Cert.ReferenceIdeal.main_arg5))
      (U (Proc.devRef .tc Cert.ReferenceIdeal.main_arg6)) = act (Cert.ReferenceIdeal.Value.res_main_v5 U) := by
  have e : (shapeCast S1x512 (U (Proc.devRef .tc Cert.ReferenceIdeal.main_arg6) : FVec Ideal S512 .f32) shapeCasts_S512_S1x512 : FVec Ideal S1x512 .f32)
      = broadcastInDim Cert.ReferenceIdeal.S1x512 ![1] Cert.ReferenceIdeal.Gen.bcast_S512_S1x512_1 (U (Proc.devRef .tc Cert.ReferenceIdeal.main_arg6)) := by
    funext y
    idx_vars y
    pointwise
  unfold hid preAct
  rw [e]
  rfl

/-- The scores are the reference's. -/
theorem scores_eq (U : Valuation Cert.ReferenceIdeal.τ Cert.ReferenceIdeal.sig (Elt Ideal)) :
    scores (U (Proc.devRef .tc Cert.ReferenceIdeal.main_arg0)) (U (Proc.devRef .tc Cert.ReferenceIdeal.main_arg5))
      (U (Proc.devRef .tc Cert.ReferenceIdeal.main_arg6)) (U (Proc.devRef .tc Cert.ReferenceIdeal.main_arg7))
      (U (Proc.devRef .tc Cert.ReferenceIdeal.main_arg8)) = Cert.ReferenceIdeal.Value.res_main_v23 U := by
  unfold scores
  rw [hid_eq]
  have r : Cert.ReferenceIdeal.Value.res_main_v23 U = addf (Host.dotGeneral Cert.ReferenceIdeal.dot_S2048x512_S512x8_S2048x8_1_0_0_1_n_n none
      (act (Cert.ReferenceIdeal.Value.res_main_v5 U)) (transpose Cert.ReferenceIdeal.S512x8 [1, 0] (U (Proc.devRef .tc Cert.ReferenceIdeal.main_arg7)) Cert.ReferenceIdeal.Gen.transposes_S8x512_S512x8_1_0))
      (broadcastInDim Cert.ReferenceIdeal.S2048x8 ![0, 1] Cert.ReferenceIdeal.Gen.bcast_S1x8_S2048x8_0_1 (broadcastInDim Cert.ReferenceIdeal.S1x8 ![1] Cert.ReferenceIdeal.Gen.bcast_S8_S1x8_1 (U (Proc.devRef .tc Cert.ReferenceIdeal.main_arg8)))) := rfl
  rw [r]
  generalize act (Cert.ReferenceIdeal.Value.res_main_v5 U) = H
  generalize (U (Proc.devRef .tc Cert.ReferenceIdeal.main_arg7)) = A
  generalize (U (Proc.devRef .tc Cert.ReferenceIdeal.main_arg8)) = b
  change FVec Ideal S8x512 .f32 at A
  change FVec Ideal S8 .f32 at b
  change FVec Ideal S2048x512 .f32 at H
  funext y
  obtain ⟨s, e, rfl⟩ : ∃ (s : Fin 2048) (e : Fin 8), y = ix2 s e := ⟨y 0, y 1, by blk_ext⟩
  have he : e.val < 8 := e.isLt
  have hp : ∀ k : Fin 512, padT A (ix2 k (⟨e.val, by omega⟩ : Fin 128)) = A (ix2 e k) := fun k => padT_at A k _ he
  have hb : padRow b (ix2 0 (⟨e.val, by omega⟩ : Fin 128)) = b (ix1 e) := padRow_at b _ he
  pointwise [rowsCols]
  simp only [hp, hb]

end Cert.KernelIdeal.Own
-- ==== Proof.Final.lean ====
module

public import proofs.«01_k».proof.Proof.Finite
public import proofs.«01_k».proof.Proof.Scores

@[expose] public section

set_option maxRecDepth 16384

noncomputable section

namespace Cert.KernelIdeal.Own

open Idealize.ShloMosaic Idealize.ShloMosaic.TcCoe Idealize.SL.Sem
open Cert.KernelIdeal Cert.KernelIdeal.Gen

/-- The reference's scores, named for what they are. -/
abbrev sc (U : Valuation Cert.ReferenceIdeal.τ Cert.ReferenceIdeal.sig (Elt Ideal)) : FVec Ideal S2048x8 .f32 := Cert.ReferenceIdeal.Value.res_main_v23 U

/-- The reference's chosen rows are the selection's, of its scores. -/
theorem indices_eq (U : Valuation Cert.ReferenceIdeal.τ Cert.ReferenceIdeal.sig (Elt Ideal)) : Cert.ReferenceIdeal.Value.res_main_indices U = (topOf (sc U)).2 := rfl
/-- The reference's chosen scores are the selection's. -/
theorem values_eq (U : Valuation Cert.ReferenceIdeal.τ Cert.ReferenceIdeal.sig (Elt Ideal)) : Cert.ReferenceIdeal.Value.res_main_values U = (topOf (sc U)).1 := rfl
/-- The exponentials behind the reference's weights. -/
theorem weights_eq (U : Valuation Cert.ReferenceIdeal.τ Cert.ReferenceIdeal.sig (Elt Ideal)) : Cert.ReferenceIdeal.Value.res_main_v31 U = expOf (topOf (sc U)).1 := rfl

/-- The reference's query heads of the chosen rows, before they are turned. -/
theorem v73_eq (U : Valuation Cert.ReferenceIdeal.τ Cert.ReferenceIdeal.sig (Elt Ideal)) : Cert.ReferenceIdeal.Value.res_main_v73 U = take4 (headed (prod (mat (U (Proc.devRef .tc Cert.ReferenceIdeal.main_arg0))) (flip (U (Proc.devRef .tc Cert.ReferenceIdeal.main_arg1))))) (topOf (sc U)).2 := rfl
/-- The reference's key heads of the chosen rows, before they are turned. -/
theorem v74_eq (U : Valuation Cert.ReferenceIdeal.τ Cert.ReferenceIdeal.sig (Elt Ideal)) : Cert.ReferenceIdeal.Value.res_main_v74 U = take4 (headed (prod (mat (U (Proc.devRef .tc Cert.ReferenceIdeal.main_arg0))) (flip (U (Proc.devRef .tc Cert.ReferenceIdeal.main_arg2))))) (topOf (sc U)).2 := rfl
/-- The reference's cosines. -/
theorem v68_eq (U : Valuation Cert.ReferenceIdeal.τ Cert.ReferenceIdeal.sig (Elt Ideal)) : Cert.ReferenceIdeal.Value.res_main_v68 U = spread (Host.cos angles) := rfl
/-- The reference's sines. -/
theorem v70_eq (U : Valuation Cert.ReferenceIdeal.τ Cert.ReferenceIdeal.sig (Elt Ideal)) : Cert.ReferenceIdeal.Value.res_main_v70 U = spread (Host.sin angles) := rfl

/-- The reference's masked scores. -/
theorem v101_eq (U : Valuation Cert.ReferenceIdeal.τ Cert.ReferenceIdeal.sig (Elt Ideal)) : Cert.ReferenceIdeal.Value.res_main_v101 U = masked (turned (U (Proc.devRef .tc Cert.ReferenceIdeal.main_arg0)) (U (Proc.devRef .tc Cert.ReferenceIdeal.main_arg1)) (sc U)) (turned (U (Proc.devRef .tc Cert.ReferenceIdeal.main_arg0)) (U (Proc.devRef .tc Cert.ReferenceIdeal.main_arg2)) (sc U)) := by
  unfold turned
  rw [← v73_eq, ← v74_eq, ← v68_eq, ← v70_eq]
  rfl

/-- The reference's exponentials of its masked scores. -/
theorem v108_eq (U : Valuation Cert.ReferenceIdeal.τ Cert.ReferenceIdeal.sig (Elt Ideal)) : Cert.ReferenceIdeal.Value.res_main_v108 U = expo (masked (turned (U (Proc.devRef .tc Cert.ReferenceIdeal.main_arg0)) (U (Proc.devRef .tc Cert.ReferenceIdeal.main_arg1)) (sc U)) (turned (U (Proc.devRef .tc Cert.ReferenceIdeal.main_arg0)) (U (Proc.devRef .tc Cert.ReferenceIdeal.main_arg2)) (sc U))) := by
  rw [← v101_eq]
  rfl

set_option maxHeartbeats 2000000 in
/-- The reference ends with its output and its auxiliary loss, its arguments unchanged. -/
theorem ref_run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v128) = refOut (sc (Idealize.ShloMosaic.StableHlo.launchContents m c)) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) ∧
      r.2.mem ((c.tc : Thread Cert.ReferenceIdeal.nD Cert.ReferenceIdeal.τ).loc Cert.ReferenceIdeal.main_v39) = auxOf (sc (Idealize.ShloMosaic.StableHlo.launchContents m c)) ∧
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0) ∧
      r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) ∧
      r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2) ∧
      r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3) ∧
      r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4) ∧
      r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5) ∧
      r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6) ∧
      r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7) ∧
      r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8) := by
  refine (θ_run Cert.ReferenceIdeal.defs _ _).mono (fun r h c => ⟨(h c).1.trans ?_, (h c).2.1, (h c).2.2⟩) (Cert.ReferenceIdeal.Value.run m ρ)
  unfold refOut weighted addBack3
  rw [show expo (masked (turned (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (sc (Idealize.ShloMosaic.StableHlo.launchContents m c))) (turned (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (sc (Idealize.ShloMosaic.StableHlo.launchContents m c)))) = Cert.ReferenceIdeal.Value.res_main_v108 (Idealize.ShloMosaic.StableHlo.launchContents m c) from (v108_eq (Idealize.ShloMosaic.StableHlo.launchContents m c)).symm]
  rfl

end Cert.KernelIdeal.Own
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Final
public import Idealize.ShloMosaic.Adequacy
public import Idealize.ShloMosaic.Init
public import Idealize.ShloMosaic.Lib.Claim

@[expose] public section

noncomputable section

namespace Cert.Proof

open Idealize.ShloMosaic Idealize.SL.Sem Cert.KernelIdeal.Own

/-- The reference runs from any memory, leaving its arguments and the counters as they were. -/
theorem ref_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0) :=
  (θ_run Cert.ReferenceIdeal.defs _ _).mono (fun r h => ⟨fun c => (h c).2.2, Idealize.ShloMosaic.sem_eq_zero_of_no_sems (by decide) r.2⟩) (ref_run m g)

/-- The two programs' scores are equal where their arguments are. -/
theorem scores_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    sc (Idealize.ShloMosaic.StableHlo.launchContents m' c) = scores (m ((c.tc : Thread Cert.KernelIdeal.nD Cert.KernelIdeal.τ).loc Cert.KernelIdeal.main_arg0)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  rw [← h0, ← h5, ← h6, ← h7, ← h8]
  exact (scores_eq (Idealize.ShloMosaic.StableHlo.launchContents m' c)).symm

/-- Both results of the two programs are equal, the input and the query and key weights being finite. -/
theorem value : Cert.algebraic_KernelIdeal_ReferenceIdeal_pre_finite_inputs (hKernelIdeal := Cert.KernelIdeal.Gen.facts) (hReferenceIdeal := Cert.ReferenceIdeal.Gen.facts) (hPre_finite_inputs := preFacts) := by
  intro m g m' g' hpre harg
  refine ⟨fun c => Cert.KernelIdeal.Gen.W21 m g c (Proc.devRef .tc Cert.KernelIdeal.main_v83), fun c => Cert.KernelIdeal.Gen.W21 m g c (Proc.devRef .tc Cert.KernelIdeal.main_v17), ?_, ?_⟩
  · exact (θ_run Cert.KernelIdeal.defs _ _).mono (fun r h c => h.1 c) (run_results m g)
  · refine (θ_run Cert.ReferenceIdeal.defs _ _).mono (fun r h c => ⟨(h c).1.trans ?_, (h c).2.1.trans ?_, (h c).2.2⟩) (ref_run m' g')
    · obtain ⟨h0, h1, h2, h3, h4, h5, h6, h7, h8⟩ := harg c
      obtain ⟨p0, p1, p2⟩ := pre_real _ _ _ _ _ _ _ _ _ (hpre c)
      rw [scores_same m m' c h0 h5 h6 h7 h8, h0, h1, h2, h3, h4]
      exact (outOf_eq _ _ _ _ _ _ p0 p1 p2).symm.trans (at21_v83 m g c).symm
    · obtain ⟨h0, h1, h2, h3, h4, h5, h6, h7, h8⟩ := harg c
      rw [scores_same m m' c h0 h5 h6 h7 h8]
      exact (at21_v17 m g c).symm

/-- Everything the certificate claims. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    fun m ρ _ => ref_frame m ρ, fun m ρ _ => ref_frame m ρ, trivial, value⟩

end Cert.Proof

end
